-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x2048 : Shape := ⟨3, ![2, 512, 2048]⟩
abbrev S2048 : Shape := ⟨1, ![2048]⟩
abbrev S2048x8192 : Shape := ⟨2, ![2048, 8192]⟩
abbrev S8192 : Shape := ⟨1, ![8192]⟩
abbrev S1024x2048 : Shape := ⟨2, ![1024, 2048]⟩
abbrev S1x2048 : Shape := ⟨2, ![1, 2048]⟩
abbrev S1x8192 : Shape := ⟨2, ![1, 8192]⟩
abbrev S1024x8192 : Shape := ⟨2, ![1024, 8192]⟩
abbrev S1x1 : Shape := ⟨2, ![1, 1]⟩
abbrev S1024x1 : Shape := ⟨2, ![1024, 1]⟩
abbrev S2048x512 : Shape := ⟨2, ![2048, 512]⟩
abbrev S1x512 : Shape := ⟨2, ![1, 512]⟩
abbrev S16x1024x512 : Shape := ⟨3, ![16, 1024, 512]⟩
abbrev S8x512 : Shape := ⟨2, ![8, 512]⟩
abbrev S128x2048 : Shape := ⟨2, ![128, 2048]⟩
abbrev S128 : Shape := ⟨1, ![128]⟩
abbrev S128x1 : Shape := ⟨2, ![128, 1]⟩
abbrev S1024x512 : Shape := ⟨2, ![1024, 512]⟩
abbrev S1x1024x512 : Shape := ⟨3, ![1, 1024, 512]⟩
abbrev S128x8x512 : Shape := ⟨3, ![128, 8, 512]⟩
abbrev S1x8x512 : Shape := ⟨3, ![1, 8, 512]⟩
abbrev S1 : Shape := ⟨1, ![1]⟩
abbrev S1x1x1 : Shape := ⟨3, ![1, 1, 1]⟩
abbrev S8x128 : Shape := ⟨2, ![8, 128]⟩
abbrev S1x8x128 : Shape := ⟨3, ![1, 8, 128]⟩

abbrev nBuf : Space → Nat
  | .hbm => 12
  | .vmem => 11
  | .smem => 2
  | _ => 0

abbrev bufTy : (tb : Table) → Fin (tcTables nBuf tb) → BufTy
  | .hbm, ⟨0, _⟩ => ⟨S2x512x2048, .bf16⟩
  | .hbm, ⟨1, _⟩ => ⟨S2048, .f32⟩
  | .hbm, ⟨2, _⟩ => ⟨S2048x8192, .fp8e4m3⟩
  | .hbm, ⟨3, _⟩ => ⟨S8192, .f32⟩
  | .hbm, ⟨4, _⟩ => ⟨S1024x2048, .bf16⟩
  | .hbm, ⟨5, _⟩ => ⟨S1x2048, .f32⟩
  | .hbm, ⟨6, _⟩ => ⟨S1x8192, .f32⟩
  | .hbm, ⟨7, _⟩ => ⟨S1024x8192, .fp8e4m3⟩
  | .hbm, ⟨8, _⟩ => ⟨S1x1, .f32⟩
  | .hbm, ⟨9, _⟩ => ⟨S1x1, .f32⟩
  | .hbm, ⟨10, _⟩ => ⟨S1024x2048, .fp8e4m3⟩
  | .hbm, ⟨11, _⟩ => ⟨S1024x1, .f32⟩
  | .local _ .vmem, ⟨0, _⟩ => ⟨S1024x2048, .bf16⟩
  | .local _ .vmem, ⟨1, _⟩ => ⟨S1x2048, .f32⟩
  | .local _ .vmem, ⟨2, _⟩ => ⟨S2048x512, .fp8e4m3⟩
  | .local _ .vmem, ⟨3, _⟩ => ⟨S2048x512, .fp8e4m3⟩
  | .local _ .vmem, ⟨4, _⟩ => ⟨S1x512, .f32⟩
  | .local _ .vmem, ⟨5, _⟩ => ⟨S1x512, .f32⟩
  | .local _ .vmem, ⟨6, _⟩ => ⟨S1024x8192, .fp8e4m3⟩
  | .local _ .vmem, ⟨7, _⟩ => ⟨S1024x2048, .fp8e4m3⟩
  | .local _ .vmem, ⟨8, _⟩ => ⟨S1024x1, .f32⟩
  | .local _ .vmem, ⟨9, _⟩ => ⟨S16x1024x512, .f32⟩
  | .local _ .vmem, ⟨10, _⟩ => ⟨S8x512, .f32⟩
  | .local _ .smem, ⟨0, _⟩ => ⟨S1x1, .f32⟩
  | .local _ .smem, ⟨1, _⟩ => ⟨S1x1, .f32⟩
  | _, _ => ⟨S2x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_stg5_0 : Ref sig .tc := ⟨.smem, 0, rfl⟩
abbrev cc0_stg6_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let v15 : Index := Scalar.indexCast arg0
  let c0_8 : Index := 0#32
  let c0_9 : Index := 0#32
  ![v15.toNat, 0, 0]
def k0_cond2 (i : grid0.Coords) : BitVec 1 :=
  let arg0 : BitVec 32 := BitVec.ofNat 32 (i 0).val
  let c15_i32 : BitVec 32 := 15#32
  let v27 : BitVec 1 := Scalar.cmpi .eq arg0 c15_i32
  let v28 : BitVec 32 := Scalar.extui v27
  let c0_i32_15 : BitVec 32 := 0#32
  let v29 : BitVec 1 := Scalar.cmpi .ne v28 c0_i32_15
  v29

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S2x512x2048 : Shape := ⟨3, ![2, 512, 2048]⟩
abbrev S2048 : Shape := ⟨1, ![2048]⟩
abbrev S2048x8192 : Shape := ⟨2, ![2048, 8192]⟩
abbrev S8192 : Shape := ⟨1, ![8192]⟩
abbrev S1024x2048 : Shape := ⟨2, ![1024, 2048]⟩
abbrev S1x2048 : Shape := ⟨2, ![1, 2048]⟩
abbrev S1x8192 : Shape := ⟨2, ![1, 8192]⟩
abbrev S1024x8192 : Shape := ⟨2, ![1024, 8192]⟩
abbrev S1x1 : Shape := ⟨2, ![1, 1]⟩
abbrev S1024x1 : Shape := ⟨2, ![1024, 1]⟩
abbrev S1024 : Shape := ⟨1, ![1024]⟩
abbrev S1x1024x8192 : Shape := ⟨3, ![1, 1024, 8192]⟩
abbrev S1 : Shape := ⟨1, ![1]⟩
abbrev S1x1x1 : Shape := ⟨3, ![1, 1, 1]⟩

abbrev nBuf : Space → Nat
  | .hbm => 12
  | .vmem => 9
  | .smem => 0
  | _ => 0

abbrev bufTy : (tb : Table) → Fin (tcTables nBuf tb) → BufTy
  | .hbm, ⟨0, _⟩ => ⟨S2x512x2048, .bf16⟩
  | .hbm, ⟨1, _⟩ => ⟨S2048, .f32⟩
  | .hbm, ⟨2, _⟩ => ⟨S2048x8192, .fp8e4m3⟩
  | .hbm, ⟨3, _⟩ => ⟨S8192, .f32⟩
  | .hbm, ⟨4, _⟩ => ⟨S1024x2048, .bf16⟩
  | .hbm, ⟨5, _⟩ => ⟨S1x2048, .f32⟩
  | .hbm, ⟨6, _⟩ => ⟨S1x8192, .f32⟩
  | .hbm, ⟨7, _⟩ => ⟨S1024x8192, .fp8e4m3⟩
  | .hbm, ⟨8, _⟩ => ⟨S1x1, .f32⟩
  | .hbm, ⟨9, _⟩ => ⟨S1x1, .f32⟩
  | .hbm, ⟨10, _⟩ => ⟨S1024x2048, .fp8e4m3⟩
  | .hbm, ⟨11, _⟩ => ⟨S1024x1, .f32⟩
  | .local _ .vmem, ⟨0, _⟩ => ⟨S1024x2048, .bf16⟩
  | .local _ .vmem, ⟨1, _⟩ => ⟨S1x2048, .f32⟩
  | .local _ .vmem, ⟨2, _⟩ => ⟨S2048x8192, .fp8e4m3⟩
  | .local _ .vmem, ⟨3, _⟩ => ⟨S1x8192, .f32⟩
  | .local _ .vmem, ⟨4, _⟩ => ⟨S1024x8192, .fp8e4m3⟩
  | .local _ .vmem, ⟨5, _⟩ => ⟨S1x1, .f32⟩
  | .local _ .vmem, ⟨6, _⟩ => ⟨S1x1, .f32⟩
  | .local _ .vmem, ⟨7, _⟩ => ⟨S1024x2048, .fp8e4m3⟩
  | .local _ .vmem, ⟨8, _⟩ => ⟨S1024x1, .f32⟩
  | _, _ => ⟨S2x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x2048 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Kernel.Conds.lean ====
module

public import proofs.«01_k».proof.Proof.Gen.Kernel.Frame
public import proofs.«01_k».proof.Proof.Gen.Kernel.Skeleton

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The condition of the prologue's branch, from the grid coordinates. -/
abbrev cond0_0 (i : grid0.Coords) : Prop := k0_cond1 i = 1#1
/-- It holds at the first point only. -/
theorem hcond0_0 : ∀ t : Fin cfg0.N, cond0_0 (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val = 0)

/-- The condition of the epilogue's branch. -/
abbrev cond0_1 (i : grid0.Coords) : Prop := k0_cond2 i = 1#1
/-- It holds at the last point only. -/
theorem hcond0_1 : ∀ t : Fin cfg0.N, cond0_1 (grid0.coords t) ↔ t.val = 15 :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ t.val = 15)

end Cert.Kernel.Hand

end
-- ==== Proof.Kernel.RunB.lean ====
module

public import proofs.«01_k».proof.Proof.Kernel.Conds

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- The stores the body leaves at a point that is neither first nor last (neither branch runs), as lists of pieces per buffer, with the proof
    that the body, started on whole buffers with the inputs at `x0 … x3`, ends with exactly those pieces written and
    every other buffer as it was. The pieces are found by running the body. -/
noncomputable def runB (c : Dev nD) (i : grid0.Coords) (arg1 : Memref sig .tc .vmem S1024x2048 .bf16) (harg1 : arg1.IsWhole) (arg2 : Memref sig .tc .vmem S1x2048 .f32) (harg2 : arg2.IsWhole) (arg3 : Memref sig .tc .vmem S2048x512 .fp8e4m3) (harg3 : arg3.IsWhole) (arg4 : Memref sig .tc .vmem S1x512 .f32) (harg4 : arg4.IsWhole) (arg5 : Memref sig .tc .vmem S1024x8192 .fp8e4m3) (harg5 : arg5.IsWhole) (arg6 : Memref sig .tc .smem S1x1 .f32) (harg6 : arg6.IsWhole) (arg7 : Memref sig .tc .smem S1x1 .f32) (harg7 : arg7.IsWhole) (arg8 : Memref sig .tc .vmem S1024x2048 .fp8e4m3) (harg8 : arg8.IsWhole) (arg9 : Memref sig .tc .vmem S1024x1 .f32) (harg9 : arg9.IsWhole) (arg10 : Memref sig .tc .vmem S16x1024x512 .f32) (harg10 : arg10.IsWhole) (arg11 : Memref sig .tc .vmem S8x512 .f32) (harg11 : arg11.IsWhole) (hc0 : ¬cond0_0 i) (hc1 : ¬cond0_1 i)
    (x0 : Vec F S1024x2048 .bf16) (x1 : Vec F S1x2048 .f32) (x2 : Vec F S2048x512 .fp8e4m3) (x3 : Vec F S1x512 .f32) (x7 : Vec F S1024x2048 .fp8e4m3) (x8 : Vec F S1024x1 .f32) (x10 : Vec F S8x512 .f32) :
    Σ' (L9 : List (View.Piece (Elt F) S16x1024x512 .f32)), { L10 : List (View.Piece (Elt F) S8x512 .f32) //
      ∀ (x4 : Vec F S1024x8192 .fp8e4m3) (x5 : Vec F S1x1 .f32) (x6 : Vec F S1x1 .f32) (x9 : Vec F S16x1024x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (arg10.view.loc (c : Thread nD τ) ↦[arg10.view.set]{fullShare} arg10.view.writes (Elt F) (harg10.unread x9) L9) ∗ (∃ f, arg11.view.loc (c : Thread nD τ) ↦[arg11.view.set]{fullShare} arg11.view.writes (Elt F) f L10)) -∗ K ⟨⟩))
          ⊢ wp frame (wpE (defs₀ (F := F)) Variants.none c none) E (cc0_rmsnorm_fp8_linear i arg1 harg1 arg2 harg2 arg3 harg3 arg4 harg4 arg5 harg5 arg6 harg6 arg7 harg7 arg8 harg8 arg9 harg9 arg10 harg10 arg11 harg11) K } := by
  refine ⟨?_, ?_, fun x4 x5 x6 x9 E K => ?run⟩
  case run =>
    simp only [cc0_rmsnorm_fp8_linear_eq_skeleton]; unfold cc0_rmsnorm_fp8_linear_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexact H9
    iexists _; iexact H10

end Cert.Kernel.Hand

end
-- ==== Proof.Kernel.RunA.lean ====
module

public import proofs.«01_k».proof.Proof.Kernel.RunB

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- The stores the body leaves at the first point (the prologue runs, the epilogue does not), as lists of pieces per buffer, with the proof
    that the body, started on whole buffers with the inputs at `x0 … x3`, ends with exactly those pieces written and
    every other buffer as it was. The pieces are found by running the body. -/
noncomputable def runA (c : Dev nD) (i : grid0.Coords) (arg1 : Memref sig .tc .vmem S1024x2048 .bf16) (harg1 : arg1.IsWhole) (arg2 : Memref sig .tc .vmem S1x2048 .f32) (harg2 : arg2.IsWhole) (arg3 : Memref sig .tc .vmem S2048x512 .fp8e4m3) (harg3 : arg3.IsWhole) (arg4 : Memref sig .tc .vmem S1x512 .f32) (harg4 : arg4.IsWhole) (arg5 : Memref sig .tc .vmem S1024x8192 .fp8e4m3) (harg5 : arg5.IsWhole) (arg6 : Memref sig .tc .smem S1x1 .f32) (harg6 : arg6.IsWhole) (arg7 : Memref sig .tc .smem S1x1 .f32) (harg7 : arg7.IsWhole) (arg8 : Memref sig .tc .vmem S1024x2048 .fp8e4m3) (harg8 : arg8.IsWhole) (arg9 : Memref sig .tc .vmem S1024x1 .f32) (harg9 : arg9.IsWhole) (arg10 : Memref sig .tc .vmem S16x1024x512 .f32) (harg10 : arg10.IsWhole) (arg11 : Memref sig .tc .vmem S8x512 .f32) (harg11 : arg11.IsWhole) (hc0 : cond0_0 i) (hc1 : ¬cond0_1 i)
    (x0 : Vec F S1024x2048 .bf16) (x1 : Vec F S1x2048 .f32) (x2 : Vec F S2048x512 .fp8e4m3) (x3 : Vec F S1x512 .f32) :
    Σ' (L7 : List (View.Piece (Elt F) S1024x2048 .fp8e4m3)), Σ' (L8 : List (View.Piece (Elt F) S1024x1 .f32)), Σ' (L9 : List (View.Piece (Elt F) S16x1024x512 .f32)), { L10 : List (View.Piece (Elt F) S8x512 .f32) //
      ∀ (x4 : Vec F S1024x8192 .fp8e4m3) (x5 : Vec F S1x1 .f32) (x6 : Vec F S1x1 .f32) (x9 : Vec F S16x1024x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare x9 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (arg10.view.loc (c : Thread nD τ) ↦[arg10.view.set]{fullShare} arg10.view.writes (Elt F) (harg10.unread x9) L9) ∗ (∃ f, arg11.view.loc (c : Thread nD τ) ↦[arg11.view.set]{fullShare} arg11.view.writes (Elt F) f L10)) -∗ K ⟨⟩))
          ⊢ wp frame (wpE (defs₀ (F := F)) Variants.none c none) E (cc0_rmsnorm_fp8_linear i arg1 harg1 arg2 harg2 arg3 harg3 arg4 harg4 arg5 harg5 arg6 harg6 arg7 harg7 arg8 harg8 arg9 harg9 arg10 harg10 arg11 harg11) K } := by
  refine ⟨?_, ?_, ?_, ?_, fun x4 x5 x6 x9 E K => ?run⟩
  case run =>
    simp only [cc0_rmsnorm_fp8_linear_eq_skeleton]; unfold cc0_rmsnorm_fp8_linear_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexact H9
    iexists _; iexact H10

end Cert.Kernel.Hand

end
-- ==== Proof.Kernel.Spec.lean ====
module

public import proofs.«01_k».proof.Proof.Kernel.Conds
public import Idealize.ShloMosaic.Lib.ValueIdxCore
public import Idealize.ShloMosaic.Lib.WholeRead
public import Idealize.ShloMosaic.Lib.VecWindow

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Idealize.ShloMosaic.ValueIdx

variable {F : FTy → Type} [FloatOps F]

local notation "𝕄" => MT nD τ sig Unit (Elt F) ℕ (UR sig nD τ) ℕ

/-! ## The kernel's arithmetic as functions of arrays

What the body computes, written over whole arrays and free of the buffers it moves them through. -/

/-- One step of the search for a float's exponent field: the candidate `e + k` is kept where the value reaches the
    power of two whose exponent field it is. -/
def stepF {s : Shape} (v : FVec F s .f32) (k : BitVec 32) (e : IVec s 32) : IVec s 32 :=
  select (cmpf .oge v (bitcastToFloat .f32 (shli (addi e (broadcast s k)) (broadcast s 23#32)))) (addi e (broadcast s k)) e

/-- The exponent field of a nonnegative value, searched by comparisons; 255 from `2^120` on. -/
def fieldF {s : Shape} (v : FVec F s .f32) : IVec s 32 :=
  select (cmpf .olt v (broadcast s (Scalar.ofBits .f32 0x7B800000#32)))
    (stepF v 1#32 (stepF v 2#32 (stepF v 4#32 (stepF v 8#32 (stepF v 16#32 (stepF v 32#32 (stepF v 64#32
      (stepF v 128#32 (broadcast s 0#32)))))))))
    (broadcast s 255#32)

/-- The field the scale is made of: 126 where the searched one is 0 or 255. -/
def biasF {s : Shape} (v : FVec F s .f32) : IVec s 32 :=
  select (ori (cmpi .eq (fieldF v) (broadcast s 0#32)) (cmpi .eq (fieldF v) (broadcast s 255#32))) (broadcast s 126#32)
    (fieldF v)

/-- The power-of-two scale of `v`: the next power of two. -/
def scaleF {s : Shape} (v : FVec F s .f32) : FVec F s .f32 :=
  bitcastToFloat .f32 (shli (addi (biasF v) (broadcast s 1#32)) (broadcast s 23#32))

/-- The inverse of the scale. -/
def invF {s : Shape} (v : FVec F s .f32) : FVec F s .f32 :=
  bitcastToFloat .f32 (shli (subi (broadcast s 253#32) (biasF v)) (broadcast s 23#32))

/-- Values clipped to the codes' range and rounded to codes. -/
def clipF {s : Shape} (v : FVec F s .f32) : FVec F s .fp8e4m3 :=
  truncf .fp8e4m3 (minimumf (broadcast s (Scalar.ofBits .f32 0x43E00000#32))
    (maximumf (broadcast s (Scalar.ofBits .f32 0xC3E00000#32)) v)) bitsLt_fp8e4m3_f32

/-- The codes of 128 rows. -/
def codesC (xr : Vec F S128x2048 .bf16) (g : Vec F S1x2048 .f32) : FVec F S128x2048 .fp8e4m3 :=
  clipF (mulf (k0_pay6 xr g) (broadcastTo S128x2048 (invF (k0_pay7 xr g)) broadcasts_S128x1_S128x2048))

/-- The scales of 128 rows. -/
def scaleC (xr : Vec F S128x2048 .bf16) (g : Vec F S1x2048 .f32) : FVec F S128x1 .f32 :=
  scaleF (k0_pay7 xr g)

/-- Rows `128 k … 128 k + 127`. -/
def rows (k : Fin 8) (x0 : Vec F S1024x2048 .bf16) : Vec F S128x2048 .bf16 := fun z =>
  x0 (ix2 ⟨128 * k.val + (z 0).val, by have h : (z 0).val < 128 := (z 0).isLt; omega⟩ (z 1))

/-- The codes of all rows, 128 at a time. -/
def xcF (x0 : Vec F S1024x2048 .bf16) (x1 : Vec F S1x2048 .f32) : Vec F S1024x2048 .fp8e4m3 := fun y =>
  codesC (rows ⟨(y 0).val / 128, by have h : (y 0).val < 1024 := (y 0).isLt; omega⟩ x0) x1
    (ix2 ⟨(y 0).val % 128, by omega⟩ (y 1))

/-- The scales of all rows, 128 at a time. -/
def xsF (x0 : Vec F S1024x2048 .bf16) (x1 : Vec F S1x2048 .f32) : Vec F S1024x1 .f32 := fun y =>
  scaleC (rows ⟨(y 0).val / 128, by have h : (y 0).val < 1024 := (y 0).isLt; omega⟩ x0) x1
    (ix2 ⟨(y 0).val % 128, by omega⟩ (y 1))

/-- An entry of the codes is an entry of its row block's codes. -/
theorem xcF_row (x0 : Vec F S1024x2048 .bf16) (x1 : Vec F S1x2048 .f32) (k : Fin 8) (z : S128x2048.Idx)
    (y : S1024x2048.Idx) (h0 : (y 0).val = 128 * k.val + (z 0).val) (h1 : (y 1).val = (z 1).val) :
    xcF x0 x1 y = codesC (rows k x0) x1 z := by
  have hz : (z 0).val < 128 := (z 0).isLt
  have e1 : (⟨(y 0).val / 128, by have h : (y 0).val < 1024 := (y 0).isLt; omega⟩ : Fin 8) = k := Fin.ext (by show (y 0).val / 128 = k.val; omega)
  have e2 : (ix2 ⟨(y 0).val % 128, by omega⟩ (y 1) : S128x2048.Idx) = z := by
    funext a; apply Fin.ext
    match a with
    | ⟨0, _⟩ => show (y 0).val % 128 = (z 0).val; omega
    | ⟨1, _⟩ => exact h1
  show codesC (rows _ x0) x1 _ = _
  rw [e1, e2]

/-- An entry of the scales is an entry of its row block's scales. -/
theorem xsF_row (x0 : Vec F S1024x2048 .bf16) (x1 : Vec F S1x2048 .f32) (k : Fin 8) (z : S128x1.Idx)
    (y : S1024x1.Idx) (h0 : (y 0).val = 128 * k.val + (z 0).val) (h1 : (y 1).val = (z 1).val) :
    xsF x0 x1 y = scaleC (rows k x0) x1 z := by
  have hz : (z 0).val < 128 := (z 0).isLt
  have e1 : (⟨(y 0).val / 128, by have h : (y 0).val < 1024 := (y 0).isLt; omega⟩ : Fin 8) = k := Fin.ext (by show (y 0).val / 128 = k.val; omega)
  have e2 : (ix2 ⟨(y 0).val % 128, by omega⟩ (y 1) : S128x1.Idx) = z := by
    funext a; apply Fin.ext
    match a with
    | ⟨0, _⟩ => show (y 0).val % 128 = (z 0).val; omega
    | ⟨1, _⟩ => exact h1
  show scaleC (rows _ x0) x1 _ = _
  rw [e1, e2]

/-- The eight-row running maximum after one more block: the block's own maxima over rows 8 apart, taken with the old. -/
def amF (xc : Vec F S1024x2048 .fp8e4m3) (w : Vec F S2048x512 .fp8e4m3) (xs : Vec F S1024x1 .f32) (ws : Vec F S1x512 .f32)
    (am : Vec F S8x512 .f32) : Vec F S8x512 .f32 := k0_pay4 xc w xs ws am

/-- One column block of the product, scaled. -/
def yF (xc : Vec F S1024x2048 .fp8e4m3) (w : Vec F S2048x512 .fp8e4m3) (xs : Vec F S1024x1 .f32) (ws : Vec F S1x512 .f32) :
    Vec F S1x1024x512 .f32 := k0_pay3 xc w xs ws

/-- The running maximum the first point starts from. -/
def am0F : Vec F S8x512 .f32 := k0_pay5

/-- The largest entry of the running maximum. -/
def amaxF (am : Vec F S8x512 .f32) : F .f32 := k0_pay83 am

/-- A vector's largest entry, as the epilogue takes it. -/
def topF (v : FVec F S8x128 .f32) : F .f32 := k0_pay90 v

/-- The scale of the product, from the running maximum. -/
def yscF (am : Vec F S8x512 .f32) : F .f32 := topF (scaleF (k0_pay84 am))

/-- The inverse of the product's scale. -/
def yinvF (am : Vec F S8x512 .f32) : F .f32 := topF (invF (k0_pay84 am))

/-- The codes of one column block. -/
def codesY (inv : F .f32) (yb : Vec F S1x1024x512 .f32) : FVec F S1024x512 .fp8e4m3 :=
  clipF (mulf (shapeCast S1024x512 yb shapeCasts_S1x1024x512_S1024x512) (broadcast S1024x512 inv))

/-- Plane `k` of the scratch. -/
def plane (k : Fin 16) (y : Vec F S16x1024x512 .f32) : Vec F S1x1024x512 .f32 := fun z => y (ix3 k (z 1) (z 2))

/-- The codes of the whole product, 512 columns at a time. -/
def ycF (y : Vec F S16x1024x512 .f32) (am : Vec F S8x512 .f32) : Vec F S1024x8192 .fp8e4m3 := fun z =>
  codesY (yinvF am) (plane ⟨(z 1).val / 512, by have h : (z 1).val < 8192 := (z 1).isLt; omega⟩ y)
    (ix2 (z 0) ⟨(z 1).val % 512, by omega⟩)

/-- An entry of the product's codes is an entry of its column block's codes. -/
theorem ycF_col (y : Vec F S16x1024x512 .f32) (am : Vec F S8x512 .f32) (k : Fin 16) (x : S1024x512.Idx)
    (z : S1024x8192.Idx) (h0 : (z 0).val = (x 0).val) (h1 : (z 1).val = 512 * k.val + (x 1).val) :
    ycF y am z = codesY (yinvF am) (plane k y) x := by
  have hz : (x 1).val < 512 := (x 1).isLt
  have e1 : (⟨(z 1).val / 512, by have h : (z 1).val < 8192 := (z 1).isLt; omega⟩ : Fin 16) = k := Fin.ext (by show (z 1).val / 512 = k.val; omega)
  have e2 : (ix2 (z 0) ⟨(z 1).val % 512, by omega⟩ : S1024x512.Idx) = x := by
    funext a; apply Fin.ext
    match a with
    | ⟨0, _⟩ => exact h0
    | ⟨1, _⟩ => show (z 1).val % 512 = (x 1).val; omega
  show codesY _ (plane _ y) _ = _
  rw [e1, e2]

/-- The scratch with plane `k` replaced by one block. -/
def yPut (k : ℕ) (y : Vec F S16x1024x512 .f32) (b : Vec F S1x1024x512 .f32) : Vec F S16x1024x512 .f32 := fun z =>
  if (z 0).val = k then b (ix3 (0 : Fin 1) (z 1) (z 2)) else y z

end Cert.Kernel.Hand

end
-- ==== Proof.Kernel.PiecesA.lean ====
module

public import proofs.«01_k».proof.Proof.Kernel.RunA
public import proofs.«01_k».proof.Proof.Kernel.Spec

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Idealize.ShloMosaic.ValueIdx

variable {F : FTy → Type} [FloatOps F]

local notation "𝕄" => MT nD τ sig Unit (Elt F) ℕ (UR sig nD τ) ℕ

/-- A load of 128 rows of the first operand. -/
theorem read_rows (a1 : Memref sig .tc .vmem S1024x2048 .bf16) (h1 : a1.IsWhole) (x0 : Vec F S1024x2048 .bf16) (k : Fin 8)
    (o : Fin 2 → ℕ) (inb : ∀ a, o a + S128x2048.size a ≤ S1024x2048.size a) (ho : o = ![128 * k.val, 0]) :
    View.readAt (Elt F) a1.view (Rect.unit (s := S1024x2048) o S128x2048.size inb).toLoadRect (h1.unread x0) = rows k x0 := by
  subst ho
  funext z
  rw [h1.readAt_unread]
  refine congrArg x0 (funext fun a => Fin.ext ?_)
  match a with
  | ⟨0, _⟩ => show 128 * k.val + 1 * (z 0).val = 128 * k.val + (z 0).val; omega
  | ⟨1, _⟩ => show 0 + 1 * (z 1).val = (z 1).val; omega

/-- A load of the whole gain row. -/
theorem read_gain (a2 : Memref sig .tc .vmem S1x2048 .f32) (h2 : a2.IsWhole) (x1 : Vec F S1x2048 .f32) :
    View.readAt (Elt F) a2.view (Rect.unit (s := S1x2048) ![0, 0] S1x2048.size inb_S1x2048_S1x2048_0_0).toLoadRect (h2.unread x1) = x1 := by
  rw [View.readAt_full, h2.read_unread]

/-- The pieces the prologue stores, chunk by chunk. -/
theorem H7_8_raw (c : Dev nD) (a1 : Memref sig .tc .vmem S1024x2048 .bf16) (h1 : a1.IsWhole) (a2 : Memref sig .tc .vmem S1x2048 .f32) (h2 : a2.IsWhole)
    (x0 : Vec F S1024x2048 .bf16) (x1 : Vec F S1x2048 .f32) :
    runA.sl.H7_8 (F := F) c a1 h1 a2 h2 x0 x1 = [⟨Rect.unit ![896, 0] S128x2048.size inb_S1024x2048_S128x2048_896_0, codesC (View.readAt (Elt F) a1.view (Rect.unit (s := S1024x2048) ![896, 0] S128x2048.size inb_S1024x2048_S128x2048_896_0).toLoadRect (h1.unread x0)) (View.readAt (Elt F) a2.view (Rect.unit (s := S1x2048) ![0, 0] S1x2048.size inb_S1x2048_S1x2048_0_0).toLoadRect (h2.unread x1))⟩, ⟨Rect.unit ![768, 0] S128x2048.size inb_S1024x2048_S128x2048_768_0, codesC (View.readAt (Elt F) a1.view (Rect.unit (s := S1024x2048) ![768, 0] S128x2048.size inb_S1024x2048_S128x2048_768_0).toLoadRect (h1.unread x0)) (View.readAt (Elt F) a2.view (Rect.unit (s := S1x2048) ![0, 0] S1x2048.size inb_S1x2048_S1x2048_0_0).toLoadRect (h2.unread x1))⟩, ⟨Rect.unit ![640, 0] S128x2048.size inb_S1024x2048_S128x2048_640_0, codesC (View.readAt (Elt F) a1.view (Rect.unit (s := S1024x2048) ![640, 0] S128x2048.size inb_S1024x2048_S128x2048_640_0).toLoadRect (h1.unread x0)) (View.readAt (Elt F) a2.view (Rect.unit (s := S1x2048) ![0, 0] S1x2048.size inb_S1x2048_S1x2048_0_0).toLoadRect (h2.unread x1))⟩, ⟨Rect.unit ![512, 0] S128x2048.size inb_S1024x2048_S128x2048_512_0, codesC (View.readAt (Elt F) a1.view (Rect.unit (s := S1024x2048) ![512, 0] S128x2048.size inb_S1024x2048_S128x2048_512_0).toLoadRect (h1.unread x0)) (View.readAt (Elt F) a2.view (Rect.unit (s := S1x2048) ![0, 0] S1x2048.size inb_S1x2048_S1x2048_0_0).toLoadRect (h2.unread x1))⟩, ⟨Rect.unit ![384, 0] S128x2048.size inb_S1024x2048_S128x2048_384_0, codesC (View.readAt (Elt F) a1.view (Rect.unit (s := S1024x2048) ![384, 0] S128x2048.size inb_S1024x2048_S128x2048_384_0).toLoadRect (h1.unread x0)) (View.readAt (Elt F) a2.view (Rect.unit (s := S1x2048) ![0, 0] S1x2048.size inb_S1x2048_S1x2048_0_0).toLoadRect (h2.unread x1))⟩, ⟨Rect.unit ![256, 0] S128x2048.size inb_S1024x2048_S128x2048_256_0, codesC (View.readAt (Elt F) a1.view (Rect.unit (s := S1024x2048) ![256, 0] S128x2048.size inb_S1024x2048_S128x2048_256_0).toLoadRect (h1.unread x0)) (View.readAt (Elt F) a2.view (Rect.unit (s := S1x2048) ![0, 0] S1x2048.size inb_S1x2048_S1x2048_0_0).toLoadRect (h2.unread x1))⟩, ⟨Rect.unit ![128, 0] S128x2048.size inb_S1024x2048_S128x2048_128_0, codesC (View.readAt (Elt F) a1.view (Rect.unit (s := S1024x2048) ![128, 0] S128x2048.size inb_S1024x2048_S128x2048_128_0).toLoadRect (h1.unread x0)) (View.readAt (Elt F) a2.view (Rect.unit (s := S1x2048) ![0, 0] S1x2048.size inb_S1x2048_S1x2048_0_0).toLoadRect (h2.unread x1))⟩, ⟨Rect.unit ![0, 0] S128x2048.size inb_S1024x2048_S128x2048_0_0, codesC (View.readAt (Elt F) a1.view (Rect.unit (s := S1024x2048) ![0, 0] S128x2048.size inb_S1024x2048_S128x2048_0_0).toLoadRect (h1.unread x0)) (View.readAt (Elt F) a2.view (Rect.unit (s := S1x2048) ![0, 0] S1x2048.size inb_S1x2048_S1x2048_0_0).toLoadRect (h2.unread x1))⟩] := rfl

/-- The eight stores of codes at the first point are the codes of the eight row blocks. -/
theorem H7_8_eq (c : Dev nD) (a1 : Memref sig .tc .vmem S1024x2048 .bf16) (h1 : a1.IsWhole) (a2 : Memref sig .tc .vmem S1x2048 .f32) (h2 : a2.IsWhole)
    (x0 : Vec F S1024x2048 .bf16) (x1 : Vec F S1x2048 .f32) :
    runA.sl.H7_8 (F := F) c a1 h1 a2 h2 x0 x1 = [⟨Rect.unit ![896, 0] S128x2048.size inb_S1024x2048_S128x2048_896_0, codesC (rows 7 x0) x1⟩, ⟨Rect.unit ![768, 0] S128x2048.size inb_S1024x2048_S128x2048_768_0, codesC (rows 6 x0) x1⟩, ⟨Rect.unit ![640, 0] S128x2048.size inb_S1024x2048_S128x2048_640_0, codesC (rows 5 x0) x1⟩, ⟨Rect.unit ![512, 0] S128x2048.size inb_S1024x2048_S128x2048_512_0, codesC (rows 4 x0) x1⟩, ⟨Rect.unit ![384, 0] S128x2048.size inb_S1024x2048_S128x2048_384_0, codesC (rows 3 x0) x1⟩, ⟨Rect.unit ![256, 0] S128x2048.size inb_S1024x2048_S128x2048_256_0, codesC (rows 2 x0) x1⟩, ⟨Rect.unit ![128, 0] S128x2048.size inb_S1024x2048_S128x2048_128_0, codesC (rows 1 x0) x1⟩, ⟨Rect.unit ![0, 0] S128x2048.size inb_S1024x2048_S128x2048_0_0, codesC (rows 0 x0) x1⟩] := by
  rw [H7_8_raw]
  rw [read_gain a2 h2 x1]
  simp only [read_rows a1 h1 x0 0 ![0, 0] _ rfl, read_rows a1 h1 x0 1 ![128, 0] _ rfl, read_rows a1 h1 x0 2 ![256, 0] _ rfl, read_rows a1 h1 x0 3 ![384, 0] _ rfl, read_rows a1 h1 x0 4 ![512, 0] _ rfl, read_rows a1 h1 x0 5 ![640, 0] _ rfl, read_rows a1 h1 x0 6 ![768, 0] _ rfl, read_rows a1 h1 x0 7 ![896, 0] _ rfl]

/-- The pieces the prologue stores, chunk by chunk. -/
theorem H8_8_raw (c : Dev nD) (a1 : Memref sig .tc .vmem S1024x2048 .bf16) (h1 : a1.IsWhole) (a2 : Memref sig .tc .vmem S1x2048 .f32) (h2 : a2.IsWhole)
    (x0 : Vec F S1024x2048 .bf16) (x1 : Vec F S1x2048 .f32) :
    runA.sl.H8_8 (F := F) c a1 h1 a2 h2 x0 x1 = [⟨Rect.unit ![896, 0] S128x1.size inb_S1024x1_S128x1_896_0, scaleC (View.readAt (Elt F) a1.view (Rect.unit (s := S1024x2048) ![896, 0] S128x2048.size inb_S1024x2048_S128x2048_896_0).toLoadRect (h1.unread x0)) (View.readAt (Elt F) a2.view (Rect.unit (s := S1x2048) ![0, 0] S1x2048.size inb_S1x2048_S1x2048_0_0).toLoadRect (h2.unread x1))⟩, ⟨Rect.unit ![768, 0] S128x1.size inb_S1024x1_S128x1_768_0, scaleC (View.readAt (Elt F) a1.view (Rect.unit (s := S1024x2048) ![768, 0] S128x2048.size inb_S1024x2048_S128x2048_768_0).toLoadRect (h1.unread x0)) (View.readAt (Elt F) a2.view (Rect.unit (s := S1x2048) ![0, 0] S1x2048.size inb_S1x2048_S1x2048_0_0).toLoadRect (h2.unread x1))⟩, ⟨Rect.unit ![640, 0] S128x1.size inb_S1024x1_S128x1_640_0, scaleC (View.readAt (Elt F) a1.view (Rect.unit (s := S1024x2048) ![640, 0] S128x2048.size inb_S1024x2048_S128x2048_640_0).toLoadRect (h1.unread x0)) (View.readAt (Elt F) a2.view (Rect.unit (s := S1x2048) ![0, 0] S1x2048.size inb_S1x2048_S1x2048_0_0).toLoadRect (h2.unread x1))⟩, ⟨Rect.unit ![512, 0] S128x1.size inb_S1024x1_S128x1_512_0, scaleC (View.readAt (Elt F) a1.view (Rect.unit (s := S1024x2048) ![512, 0] S128x2048.size inb_S1024x2048_S128x2048_512_0).toLoadRect (h1.unread x0)) (View.readAt (Elt F) a2.view (Rect.unit (s := S1x2048) ![0, 0] S1x2048.size inb_S1x2048_S1x2048_0_0).toLoadRect (h2.unread x1))⟩, ⟨Rect.unit ![384, 0] S128x1.size inb_S1024x1_S128x1_384_0, scaleC (View.readAt (Elt F) a1.view (Rect.unit (s := S1024x2048) ![384, 0] S128x2048.size inb_S1024x2048_S128x2048_384_0).toLoadRect (h1.unread x0)) (View.readAt (Elt F) a2.view (Rect.unit (s := S1x2048) ![0, 0] S1x2048.size inb_S1x2048_S1x2048_0_0).toLoadRect (h2.unread x1))⟩, ⟨Rect.unit ![256, 0] S128x1.size inb_S1024x1_S128x1_256_0, scaleC (View.readAt (Elt F) a1.view (Rect.unit (s := S1024x2048) ![256, 0] S128x2048.size inb_S1024x2048_S128x2048_256_0).toLoadRect (h1.unread x0)) (View.readAt (Elt F) a2.view (Rect.unit (s := S1x2048) ![0, 0] S1x2048.size inb_S1x2048_S1x2048_0_0).toLoadRect (h2.unread x1))⟩, ⟨Rect.unit ![128, 0] S128x1.size inb_S1024x1_S128x1_128_0, scaleC (View.readAt (Elt F) a1.view (Rect.unit (s := S1024x2048) ![128, 0] S128x2048.size inb_S1024x2048_S128x2048_128_0).toLoadRect (h1.unread x0)) (View.readAt (Elt F) a2.view (Rect.unit (s := S1x2048) ![0, 0] S1x2048.size inb_S1x2048_S1x2048_0_0).toLoadRect (h2.unread x1))⟩, ⟨Rect.unit ![0, 0] S128x1.size inb_S1024x1_S128x1_0_0, scaleC (View.readAt (Elt F) a1.view (Rect.unit (s := S1024x2048) ![0, 0] S128x2048.size inb_S1024x2048_S128x2048_0_0).toLoadRect (h1.unread x0)) (View.readAt (Elt F) a2.view (Rect.unit (s := S1x2048) ![0, 0] S1x2048.size inb_S1x2048_S1x2048_0_0).toLoadRect (h2.unread x1))⟩] := rfl

/-- The eight stores of scales, likewise. -/
theorem H8_8_eq (c : Dev nD) (a1 : Memref sig .tc .vmem S1024x2048 .bf16) (h1 : a1.IsWhole) (a2 : Memref sig .tc .vmem S1x2048 .f32) (h2 : a2.IsWhole)
    (x0 : Vec F S1024x2048 .bf16) (x1 : Vec F S1x2048 .f32) :
    runA.sl.H8_8 (F := F) c a1 h1 a2 h2 x0 x1 = [⟨Rect.unit ![896, 0] S128x1.size inb_S1024x1_S128x1_896_0, scaleC (rows 7 x0) x1⟩, ⟨Rect.unit ![768, 0] S128x1.size inb_S1024x1_S128x1_768_0, scaleC (rows 6 x0) x1⟩, ⟨Rect.unit ![640, 0] S128x1.size inb_S1024x1_S128x1_640_0, scaleC (rows 5 x0) x1⟩, ⟨Rect.unit ![512, 0] S128x1.size inb_S1024x1_S128x1_512_0, scaleC (rows 4 x0) x1⟩, ⟨Rect.unit ![384, 0] S128x1.size inb_S1024x1_S128x1_384_0, scaleC (rows 3 x0) x1⟩, ⟨Rect.unit ![256, 0] S128x1.size inb_S1024x1_S128x1_256_0, scaleC (rows 2 x0) x1⟩, ⟨Rect.unit ![128, 0] S128x1.size inb_S1024x1_S128x1_128_0, scaleC (rows 1 x0) x1⟩, ⟨Rect.unit ![0, 0] S128x1.size inb_S1024x1_S128x1_0_0, scaleC (rows 0 x0) x1⟩] := by
  rw [H8_8_raw]
  rw [read_gain a2 h2 x1]
  simp only [read_rows a1 h1 x0 0 ![0, 0] _ rfl, read_rows a1 h1 x0 1 ![128, 0] _ rfl, read_rows a1 h1 x0 2 ![256, 0] _ rfl, read_rows a1 h1 x0 3 ![384, 0] _ rfl, read_rows a1 h1 x0 4 ![512, 0] _ rfl, read_rows a1 h1 x0 5 ![640, 0] _ rfl, read_rows a1 h1 x0 6 ![768, 0] _ rfl, read_rows a1 h1 x0 7 ![896, 0] _ rfl]

/-- What the prologue's pieces leave, whatever was there before. -/
theorem H7_8_read (c : Dev nD) (a1 : Memref sig .tc .vmem S1024x2048 .bf16) (h1 : a1.IsWhole) (a2 : Memref sig .tc .vmem S1x2048 .f32) (h2 : a2.IsWhole)
    (x0 : Vec F S1024x2048 .bf16) (x1 : Vec F S1x2048 .f32)
    (a : Memref sig .tc .vmem S1024x2048 .fp8e4m3) (f : a.view.ty.Contents (Elt F)) :
    a.view.read (Elt F) (a.view.writes (Elt F) f (runA.sl.H7_8 (F := F) c a1 h1 a2 h2 x0 x1)) = xcF x0 x1 := by
  rw [H7_8_eq]
  funext y
  refine View.read_writes_apply_of_pieces a.view f (xcF x0 x1) _ ?_ y ?_
  · intro p hp
    simp only [List.mem_cons, List.not_mem_nil, or_false] at hp
    rcases hp with rfl | rfl | rfl | rfl | rfl | rfl | rfl | rfl
    · intro z; exact (xcF_row x0 x1 7 z _ (by show 896 + 1 * (z 0).val = 128 * 7 + (z 0).val; omega) (by show 0 + 1 * (z 1).val = (z 1).val; omega)).symm
    · intro z; exact (xcF_row x0 x1 6 z _ (by show 768 + 1 * (z 0).val = 128 * 6 + (z 0).val; omega) (by show 0 + 1 * (z 1).val = (z 1).val; omega)).symm
    · intro z; exact (xcF_row x0 x1 5 z _ (by show 640 + 1 * (z 0).val = 128 * 5 + (z 0).val; omega) (by show 0 + 1 * (z 1).val = (z 1).val; omega)).symm
    · intro z; exact (xcF_row x0 x1 4 z _ (by show 512 + 1 * (z 0).val = 128 * 4 + (z 0).val; omega) (by show 0 + 1 * (z 1).val = (z 1).val; omega)).symm
    · intro z; exact (xcF_row x0 x1 3 z _ (by show 384 + 1 * (z 0).val = 128 * 3 + (z 0).val; omega) (by show 0 + 1 * (z 1).val = (z 1).val; omega)).symm
    · intro z; exact (xcF_row x0 x1 2 z _ (by show 256 + 1 * (z 0).val = 128 * 2 + (z 0).val; omega) (by show 0 + 1 * (z 1).val = (z 1).val; omega)).symm
    · intro z; exact (xcF_row x0 x1 1 z _ (by show 128 + 1 * (z 0).val = 128 * 1 + (z 0).val; omega) (by show 0 + 1 * (z 1).val = (z 1).val; omega)).symm
    · intro z; exact (xcF_row x0 x1 0 z _ (by show 0 + 1 * (z 0).val = 128 * 0 + (z 0).val; omega) (by show 0 + 1 * (z 1).val = (z 1).val; omega)).symm
  · have hy0 : (y 0).val < 1024 := (y 0).isLt
    have hy1 : (y 1).val < 2048 := (y 1).isLt
    have key : ∀ (k : ℕ) (inb : ∀ a, (![128 * k, 0] : Fin 2 → ℕ) a + S128x2048.size a ≤ S1024x2048.size a), (y 0).val / 128 = k → y ∈ (Rect.unit (s := S1024x2048) ![128 * k, 0] S128x2048.size inb).set := by
      intro k inb hk
      rw [Rect.mem_set_unit]
      intro a
      match a with
      | ⟨0, _⟩ => exact ⟨(by show 128 * k ≤ (y 0).val; omega), (by show (y 0).val < 128 * k + 128; omega)⟩
      | ⟨1, _⟩ => exact ⟨Nat.zero_le _, (by show (y 1).val < 0 + 2048; omega)⟩
    have hk : (y 0).val / 128 < 8 := by omega
    rcases (show (y 0).val / 128 = 7 ∨ (y 0).val / 128 = 6 ∨ (y 0).val / 128 = 5 ∨ (y 0).val / 128 = 4 ∨ (y 0).val / 128 = 3 ∨ (y 0).val / 128 = 2 ∨ (y 0).val / 128 = 1 ∨ (y 0).val / 128 = 0 by omega) with h | h | h | h | h | h | h | h
    · exact ⟨_, (List.mem_cons_self), key 7 inb_S1024x2048_S128x2048_896_0 h⟩
    · exact ⟨_, (List.mem_cons_of_mem _ (List.mem_cons_self)), key 6 inb_S1024x2048_S128x2048_768_0 h⟩
    · exact ⟨_, (List.mem_cons_of_mem _ (List.mem_cons_of_mem _ (List.mem_cons_self))), key 5 inb_S1024x2048_S128x2048_640_0 h⟩
    · exact ⟨_, (List.mem_cons_of_mem _ (List.mem_cons_of_mem _ (List.mem_cons_of_mem _ (List.mem_cons_self)))), key 4 inb_S1024x2048_S128x2048_512_0 h⟩
    · exact ⟨_, (List.mem_cons_of_mem _ (List.mem_cons_of_mem _ (List.mem_cons_of_mem _ (List.mem_cons_of_mem _ (List.mem_cons_self))))), key 3 inb_S1024x2048_S128x2048_384_0 h⟩
    · exact ⟨_, (List.mem_cons_of_mem _ (List.mem_cons_of_mem _ (List.mem_cons_of_mem _ (List.mem_cons_of_mem _ (List.mem_cons_of_mem _ (List.mem_cons_self)))))), key 2 inb_S1024x2048_S128x2048_256_0 h⟩
    · exact ⟨_, (List.mem_cons_of_mem _ (List.mem_cons_of_mem _ (List.mem_cons_of_mem _ (List.mem_cons_of_mem _ (List.mem_cons_of_mem _ (List.mem_cons_of_mem _ (List.mem_cons_self))))))), key 1 inb_S1024x2048_S128x2048_128_0 h⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_self)))))))), key 0 inb_S1024x2048_S128x2048_0_0 h⟩

/-- What the prologue's pieces leave, whatever was there before. -/
theorem H8_8_read (c : Dev nD) (a1 : Memref sig .tc .vmem S1024x2048 .bf16) (h1 : a1.IsWhole) (a2 : Memref sig .tc .vmem S1x2048 .f32) (h2 : a2.IsWhole)
    (x0 : Vec F S1024x2048 .bf16) (x1 : Vec F S1x2048 .f32)
    (a : Memref sig .tc .vmem S1024x1 .f32) (f : a.view.ty.Contents (Elt F)) :
    a.view.read (Elt F) (a.view.writes (Elt F) f (runA.sl.H8_8 (F := F) c a1 h1 a2 h2 x0 x1)) = xsF x0 x1 := by
  rw [H8_8_eq]
  funext y
  refine View.read_writes_apply_of_pieces a.view f (xsF x0 x1) _ ?_ y ?_
  · intro p hp
    simp only [List.mem_cons, List.not_mem_nil, or_false] at hp
    rcases hp with rfl | rfl | rfl | rfl | rfl | rfl | rfl | rfl
    · intro z; exact (xsF_row x0 x1 7 z _ (by show 896 + 1 * (z 0).val = 128 * 7 + (z 0).val; omega) (by show 0 + 1 * (z 1).val = (z 1).val; omega)).symm
    · intro z; exact (xsF_row x0 x1 6 z _ (by show 768 + 1 * (z 0).val = 128 * 6 + (z 0).val; omega) (by show 0 + 1 * (z 1).val = (z 1).val; omega)).symm
    · intro z; exact (xsF_row x0 x1 5 z _ (by show 640 + 1 * (z 0).val = 128 * 5 + (z 0).val; omega) (by show 0 + 1 * (z 1).val = (z 1).val; omega)).symm
    · intro z; exact (xsF_row x0 x1 4 z _ (by show 512 + 1 * (z 0).val = 128 * 4 + (z 0).val; omega) (by show 0 + 1 * (z 1).val = (z 1).val; omega)).symm
    · intro z; exact (xsF_row x0 x1 3 z _ (by show 384 + 1 * (z 0).val = 128 * 3 + (z 0).val; omega) (by show 0 + 1 * (z 1).val = (z 1).val; omega)).symm
    · intro z; exact (xsF_row x0 x1 2 z _ (by show 256 + 1 * (z 0).val = 128 * 2 + (z 0).val; omega) (by show 0 + 1 * (z 1).val = (z 1).val; omega)).symm
    · intro z; exact (xsF_row x0 x1 1 z _ (by show 128 + 1 * (z 0).val = 128 * 1 + (z 0).val; omega) (by show 0 + 1 * (z 1).val = (z 1).val; omega)).symm
    · intro z; exact (xsF_row x0 x1 0 z _ (by show 0 + 1 * (z 0).val = 128 * 0 + (z 0).val; omega) (by show 0 + 1 * (z 1).val = (z 1).val; omega)).symm
  · have hy0 : (y 0).val < 1024 := (y 0).isLt
    have hy1 : (y 1).val < 1 := (y 1).isLt
    have key : ∀ (k : ℕ) (inb : ∀ a, (![128 * k, 0] : Fin 2 → ℕ) a + S128x1.size a ≤ S1024x1.size a), (y 0).val / 128 = k → y ∈ (Rect.unit (s := S1024x1) ![128 * k, 0] S128x1.size inb).set := by
      intro k inb hk
      rw [Rect.mem_set_unit]
      intro a
      match a with
      | ⟨0, _⟩ => exact ⟨(by show 128 * k ≤ (y 0).val; omega), (by show (y 0).val < 128 * k + 128; omega)⟩
      | ⟨1, _⟩ => exact ⟨Nat.zero_le _, (by show (y 1).val < 0 + 1; omega)⟩
    have hk : (y 0).val / 128 < 8 := by omega
    rcases (show (y 0).val / 128 = 7 ∨ (y 0).val / 128 = 6 ∨ (y 0).val / 128 = 5 ∨ (y 0).val / 128 = 4 ∨ (y 0).val / 128 = 3 ∨ (y 0).val / 128 = 2 ∨ (y 0).val / 128 = 1 ∨ (y 0).val / 128 = 0 by omega) with h | h | h | h | h | h | h | h
    · exact ⟨_, (List.mem_cons_self), key 7 inb_S1024x1_S128x1_896_0 h⟩
    · exact ⟨_, (List.mem_cons_of_mem _ (List.mem_cons_self)), key 6 inb_S1024x1_S128x1_768_0 h⟩
    · exact ⟨_, (List.mem_cons_of_mem _ (List.mem_cons_of_mem _ (List.mem_cons_self))), key 5 inb_S1024x1_S128x1_640_0 h⟩
    · exact ⟨_, (List.mem_cons_of_mem _ (List.mem_cons_of_mem _ (List.mem_cons_of_mem _ (List.mem_cons_self)))), key 4 inb_S1024x1_S128x1_512_0 h⟩
    · exact ⟨_, (List.mem_cons_of_mem _ (List.mem_cons_of_mem _ (List.mem_cons_of_mem _ (List.mem_cons_of_mem _ (List.mem_cons_self))))), key 3 inb_S1024x1_S128x1_384_0 h⟩
    · exact ⟨_, (List.mem_cons_of_mem _ (List.mem_cons_of_mem _ (List.mem_cons_of_mem _ (List.mem_cons_of_mem _ (List.mem_cons_of_mem _ (List.mem_cons_self)))))), key 2 inb_S1024x1_S128x1_256_0 h⟩
    · exact ⟨_, (List.mem_cons_of_mem _ (List.mem_cons_of_mem _ (List.mem_cons_of_mem _ (List.mem_cons_of_mem _ (List.mem_cons_of_mem _ (List.mem_cons_of_mem _ (List.mem_cons_self))))))), key 1 inb_S1024x1_S128x1_128_0 h⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_self)))))))), key 0 inb_S1024x1_S128x1_0_0 h⟩

end Cert.Kernel.Hand

end
-- ==== Proof.Kernel.Steps.lean ====
module

public import proofs.«01_k».proof.Proof.Kernel.PiecesA

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Idealize.ShloMosaic.ValueIdx

variable {F : FTy → Type} [FloatOps F]

local notation "𝕄" => MT nD τ sig Unit (Elt F) ℕ (UR sig nD τ) ℕ

/-- A store of one plane of the scratch. -/
theorem read_yPut (a : Memref sig .tc .vmem S16x1024x512 .f32) (h : a.IsWhole) (i : grid0.Coords) (x : Vec F S16x1024x512 .f32)
    (b : Vec F S1x1024x512 .f32) :
    a.view.read (Elt F) (a.view.writes (Elt F) (h.unread x) [⟨Rect.unit (s := S16x1024x512) (k0_off1 i) S1x1024x512.size (k0_off1_inb i), b⟩])
      = yPut (i 0).val x b := by
  funext y
  rw [View.read_writes_cons_unit a.view _ (k0_off1_inb i) b [] y (k0_off1_eq i), View.writes_nil, h.read_unread]
  have h1 : (y 1).val < 1024 := (y 1).isLt
  have h2 : (y 2).val < 512 := (y 2).isLt
  unfold yPut
  by_cases hy : (y 0).val = (i 0).val
  · have hall : ∀ a, (![(i 0).val, 0, 0] : Fin 3 → ℕ) a ≤ (y a).val ∧ (y a).val < (![(i 0).val, 0, 0] : Fin 3 → ℕ) a + S1x1024x512.size a := by
      intro a
      match a with
      | ⟨0, _⟩ => exact ⟨(by show (i 0).val ≤ (y 0).val; omega), (by show (y 0).val < (i 0).val + 1; omega)⟩
      | ⟨1, _⟩ => exact ⟨Nat.zero_le _, (by show (y 1).val < 0 + 1024; omega)⟩
      | ⟨2, _⟩ => exact ⟨Nat.zero_le _, (by show (y 2).val < 0 + 512; omega)⟩
    rw [dif_pos hall, if_pos hy]
    refine congrArg b (funext fun a => Fin.ext ?_)
    match a with
    | ⟨0, _⟩ => show (y 0).val - (i 0).val = 0; omega
    | ⟨1, _⟩ => rfl
    | ⟨2, _⟩ => rfl
  · rw [dif_neg (fun hall => hy (by
      have := hall 0
      have e1 : (i 0).val ≤ (y 0).val := this.1
      have e2 : (y 0).val < (i 0).val + 1 := this.2
      omega)), if_neg hy]

/-- A load of the whole of a whole buffer. -/
theorem readAll {sp : Space} {s : Shape} {e : EltTy} (a : Memref sig .tc sp s e) (h : a.IsWhole) (x : Vec F s e) (off : Fin s.rank → ℕ)
    (inb : ∀ a, off a + s.size a ≤ s.size a) :
    View.readAt (Elt F) a.view (Rect.unit (s := s) off s.size inb).toLoadRect (h.unread x) = x := by
  rw [View.readAt_full, h.read_unread]

/-- What the first point reads back of the codes is the activations' codes. -/
theorem v3_eq (c : Dev nD) (a1 : Memref sig .tc .vmem S1024x2048 .bf16) (h1 : a1.IsWhole) (a2 : Memref sig .tc .vmem S1x2048 .f32) (h2 : a2.IsWhole)
    (a8 : Memref sig .tc .vmem S1024x2048 .fp8e4m3) (x0 : Vec F S1024x2048 .bf16) (x1 : Vec F S1x2048 .f32) :
    runA.sl.v3 (F := F) c a1 h1 a2 h2 a8 x0 x1 = xcF x0 x1 :=
  (View.readAt_full a8.view _ inb_S1024x2048_S1024x2048_0_0).trans (H7_8_read c a1 h1 a2 h2 x0 x1 a8 _)

/-- What it reads back of the scales is the activations' scales. -/
theorem v7_eq (c : Dev nD) (a1 : Memref sig .tc .vmem S1024x2048 .bf16) (h1 : a1.IsWhole) (a2 : Memref sig .tc .vmem S1x2048 .f32) (h2 : a2.IsWhole)
    (a9 : Memref sig .tc .vmem S1024x1 .f32) (x0 : Vec F S1024x2048 .bf16) (x1 : Vec F S1x2048 .f32) :
    runA.sl.v7 (F := F) c a1 h1 a2 h2 a9 x0 x1 = xsF x0 x1 :=
  (View.readAt_full a9.view _ inb_S1024x1_S1024x1_0_0).trans (H8_8_read c a1 h1 a2 h2 x0 x1 a9 _)

/-- What it reads back of the maxima is zero. -/
theorem v22_eq (c : Dev nD) (a11 : Memref sig .tc .vmem S8x512 .f32) : runA.sl.v22 (F := F) c a11 = am0F :=
  View.readCov_full a11.view inb_S8x512_S8x512_0_0 inb_S8x512_S8x512_0_0 _ _

set_option maxHeartbeats 4000000 in
/-- The body at a middle point. -/
theorem stepB (c : Dev nD) (i : grid0.Coords) (arg1 : Memref sig .tc .vmem S1024x2048 .bf16) (harg1 : arg1.IsWhole) (arg2 : Memref sig .tc .vmem S1x2048 .f32) (harg2 : arg2.IsWhole) (arg3 : Memref sig .tc .vmem S2048x512 .fp8e4m3) (harg3 : arg3.IsWhole) (arg4 : Memref sig .tc .vmem S1x512 .f32) (harg4 : arg4.IsWhole) (arg5 : Memref sig .tc .vmem S1024x8192 .fp8e4m3) (harg5 : arg5.IsWhole) (arg6 : Memref sig .tc .smem S1x1 .f32) (harg6 : arg6.IsWhole) (arg7 : Memref sig .tc .smem S1x1 .f32) (harg7 : arg7.IsWhole) (arg8 : Memref sig .tc .vmem S1024x2048 .fp8e4m3) (harg8 : arg8.IsWhole) (arg9 : Memref sig .tc .vmem S1024x1 .f32) (harg9 : arg9.IsWhole) (arg10 : Memref sig .tc .vmem S16x1024x512 .f32) (harg10 : arg10.IsWhole) (arg11 : Memref sig .tc .vmem S8x512 .f32) (harg11 : arg11.IsWhole) (hc0 : ¬cond0_0 i) (hc1 : ¬cond0_1 i)
    (x0 : Vec F S1024x2048 .bf16) (x1 : Vec F S1x2048 .f32) (x2 : Vec F S2048x512 .fp8e4m3) (x3 : Vec F S1x512 .f32) (x4 : Vec F S1024x8192 .fp8e4m3) (x5 : Vec F S1x1 .f32) (x6 : Vec F S1x1 .f32) (x7 : Vec F S1024x2048 .fp8e4m3) (x8 : Vec F S1024x1 .f32) (x9 : Vec F S16x1024x512 .f32) (x10 : Vec F S8x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (yPut (i 0).val x9 (yF x7 x2 x8 x3)) ∗ owns (c : Thread nD τ) arg11 fullShare (amF x7 x2 x8 x3 x10)) -∗ K ⟨⟩))
      ⊢ wp frame (wpE (defs₀ (F := F)) Variants.none c none) E (cc0_rmsnorm_fp8_linear i arg1 harg1 arg2 harg2 arg3 harg3 arg4 harg4 arg5 harg5 arg6 harg6 arg7 harg7 arg8 harg8 arg9 harg9 arg10 harg10 arg11 harg11) K := by
  iintro ⟨H0, H1, H2, H3, H4, H5, H6, H7, H8, H9, H10, Hk⟩
  iapply ((runB c i arg1 harg1 arg2 harg2 arg3 harg3 arg4 harg4 arg5 harg5 arg6 harg6 arg7 harg7 arg8 harg8 arg9 harg9 arg10 harg10 arg11 harg11 hc0 hc1 x0 x1 x2 x3 x7 x8 x10).2.2 x4 x5 x6 x9 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, ⟨%e10, H10⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro
    exact (read_yPut arg10 harg10 i x9 (k0_pay3 (View.readAt (Elt F) arg8.view (Rect.unit (s := S1024x2048) ![0, 0] S1024x2048.size inb_S1024x2048_S1024x2048_0_0).toLoadRect (harg8.unread x7)) (View.readAt (Elt F) arg3.view (Rect.unit (s := S2048x512) ![0, 0] S2048x512.size inb_S2048x512_S2048x512_0_0).toLoadRect (harg3.unread x2)) (View.readAt (Elt F) arg9.view (Rect.unit (s := S1024x1) ![0, 0] S1024x1.size inb_S1024x1_S1024x1_0_0).toLoadRect (harg9.unread x8)) (View.readAt (Elt F) arg4.view (Rect.unit (s := S1x512) ![0, 0] S1x512.size inb_S1x512_S1x512_0_0).toLoadRect (harg4.unread x3)))).trans (congrArg (yPut (i 0).val x9) (by rw [readAll, readAll, readAll, readAll]; rfl))
  unfold owns; iexists _; isplitr
  swap; · iexact H10
  ipureintro
  exact (View.read_writes_full arg11.view e10 inb_S8x512_S8x512_0_0 (k0_pay4 (View.readAt (Elt F) arg8.view (Rect.unit (s := S1024x2048) ![0, 0] S1024x2048.size inb_S1024x2048_S1024x2048_0_0).toLoadRect (harg8.unread x7)) (View.readAt (Elt F) arg3.view (Rect.unit (s := S2048x512) ![0, 0] S2048x512.size inb_S2048x512_S2048x512_0_0).toLoadRect (harg3.unread x2)) (View.readAt (Elt F) arg9.view (Rect.unit (s := S1024x1) ![0, 0] S1024x1.size inb_S1024x1_S1024x1_0_0).toLoadRect (harg9.unread x8)) (View.readAt (Elt F) arg4.view (Rect.unit (s := S1x512) ![0, 0] S1x512.size inb_S1x512_S1x512_0_0).toLoadRect (harg4.unread x3)) (View.readAt (Elt F) arg11.view (Rect.unit (s := S8x512) ![0, 0] S8x512.size inb_S8x512_S8x512_0_0).toLoadRect (harg11.unread x10))) _).trans (by rw [readAll, readAll, readAll, readAll, readAll]; rfl)

set_option maxHeartbeats 4000000 in
/-- The body at the first point. -/
theorem stepA (c : Dev nD) (i : grid0.Coords) (arg1 : Memref sig .tc .vmem S1024x2048 .bf16) (harg1 : arg1.IsWhole) (arg2 : Memref sig .tc .vmem S1x2048 .f32) (harg2 : arg2.IsWhole) (arg3 : Memref sig .tc .vmem S2048x512 .fp8e4m3) (harg3 : arg3.IsWhole) (arg4 : Memref sig .tc .vmem S1x512 .f32) (harg4 : arg4.IsWhole) (arg5 : Memref sig .tc .vmem S1024x8192 .fp8e4m3) (harg5 : arg5.IsWhole) (arg6 : Memref sig .tc .smem S1x1 .f32) (harg6 : arg6.IsWhole) (arg7 : Memref sig .tc .smem S1x1 .f32) (harg7 : arg7.IsWhole) (arg8 : Memref sig .tc .vmem S1024x2048 .fp8e4m3) (harg8 : arg8.IsWhole) (arg9 : Memref sig .tc .vmem S1024x1 .f32) (harg9 : arg9.IsWhole) (arg10 : Memref sig .tc .vmem S16x1024x512 .f32) (harg10 : arg10.IsWhole) (arg11 : Memref sig .tc .vmem S8x512 .f32) (harg11 : arg11.IsWhole) (hc0 : cond0_0 i) (hc1 : ¬cond0_1 i)
    (x0 : Vec F S1024x2048 .bf16) (x1 : Vec F S1x2048 .f32) (x2 : Vec F S2048x512 .fp8e4m3) (x3 : Vec F S1x512 .f32) (x4 : Vec F S1024x8192 .fp8e4m3) (x5 : Vec F S1x1 .f32) (x6 : Vec F S1x1 .f32) (x9 : Vec F S16x1024x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (xcF x0 x1) ∗ owns (c : Thread nD τ) arg9 fullShare (xsF x0 x1) ∗ owns (c : Thread nD τ) arg10 fullShare (yPut (i 0).val x9 (yF (xcF x0 x1) x2 (xsF x0 x1) x3)) ∗ owns (c : Thread nD τ) arg11 fullShare (amF (xcF x0 x1) x2 (xsF x0 x1) x3 am0F)) -∗ K ⟨⟩))
      ⊢ wp frame (wpE (defs₀ (F := F)) Variants.none c none) E (cc0_rmsnorm_fp8_linear i arg1 harg1 arg2 harg2 arg3 harg3 arg4 harg4 arg5 harg5 arg6 harg6 arg7 harg7 arg8 harg8 arg9 harg9 arg10 harg10 arg11 harg11) K := by
  iintro ⟨H0, H1, H2, H3, H4, H5, H6, H7, H8, H9, H10, Hk⟩
  iapply ((runA c i arg1 harg1 arg2 harg2 arg3 harg3 arg4 harg4 arg5 harg5 arg6 harg6 arg7 harg7 arg8 harg8 arg9 harg9 arg10 harg10 arg11 harg11 hc0 hc1 x0 x1 x2 x3).2.2.2.2 x4 x5 x6 x9 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, ⟨%e7, H7⟩, ⟨%e8, H8⟩, H9, ⟨%e10, H10⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact H7_8_read c arg1 harg1 arg2 harg2 x0 x1 arg8 e7
  isplitl [H8]
  · unfold owns; iexists _; isplitr
    swap; · iexact H8
    ipureintro; exact H8_8_read c arg1 harg1 arg2 harg2 x0 x1 arg9 e8
  isplitl [H9]
  · unfold owns; iexists _; isplitr
    swap; · iexact H9
    ipureintro
    exact (read_yPut arg10 harg10 i x9 (k0_pay3 (runA.sl.v3 c arg1 harg1 arg2 harg2 arg8 x0 x1) (View.readAt (Elt F) arg3.view (Rect.unit (s := S2048x512) ![0, 0] S2048x512.size inb_S2048x512_S2048x512_0_0).toLoadRect (harg3.unread x2)) (runA.sl.v7 c arg1 harg1 arg2 harg2 arg9 x0 x1) (View.readAt (Elt F) arg4.view (Rect.unit (s := S1x512) ![0, 0] S1x512.size inb_S1x512_S1x512_0_0).toLoadRect (harg4.unread x3)))).trans (congrArg (yPut (i 0).val x9) (by rw [v3_eq, v7_eq, readAll, readAll]; rfl))
  unfold owns; iexists _; isplitr
  swap; · iexact H10
  ipureintro
  exact (View.read_writes_full arg11.view e10 inb_S8x512_S8x512_0_0 (k0_pay4 (runA.sl.v3 c arg1 harg1 arg2 harg2 arg8 x0 x1) (View.readAt (Elt F) arg3.view (Rect.unit (s := S2048x512) ![0, 0] S2048x512.size inb_S2048x512_S2048x512_0_0).toLoadRect (harg3.unread x2)) (runA.sl.v7 c arg1 harg1 arg2 harg2 arg9 x0 x1) (View.readAt (Elt F) arg4.view (Rect.unit (s := S1x512) ![0, 0] S1x512.size inb_S1x512_S1x512_0_0).toLoadRect (harg4.unread x3)) (runA.sl.v22 c arg11)) _).trans (by rw [v3_eq, v7_eq, v22_eq, readAll, readAll]; rfl)

end Cert.Kernel.Hand

end
-- ==== Proof.Kernel.Epilogue.lean ====
module

public import proofs.«01_k».proof.Proof.Kernel.Conds

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The epilogue the last point runs, on its own: the block's scale from the running maximum, then the sixteen
    column blocks of the scratch quantised one by one. -/
noncomputable def epi (i : grid0.Coords) (arg1 : Memref sig .tc .vmem S1024x2048 .bf16) (harg1 : arg1.IsWhole) (arg2 : Memref sig .tc .vmem S1x2048 .f32) (harg2 : arg2.IsWhole) (arg3 : Memref sig .tc .vmem S2048x512 .fp8e4m3) (harg3 : arg3.IsWhole) (arg4 : Memref sig .tc .vmem S1x512 .f32) (harg4 : arg4.IsWhole) (arg5 : Memref sig .tc .vmem S1024x8192 .fp8e4m3) (harg5 : arg5.IsWhole) (arg6 : Memref sig .tc .smem S1x1 .f32) (harg6 : arg6.IsWhole) (arg7 : Memref sig .tc .smem S1x1 .f32) (harg7 : arg7.IsWhole) (arg8 : Memref sig .tc .vmem S1024x2048 .fp8e4m3) (harg8 : arg8.IsWhole) (arg9 : Memref sig .tc .vmem S1024x1 .f32) (harg9 : arg9.IsWhole) (arg10 : Memref sig .tc .vmem S16x1024x512 .f32) (harg10 : arg10.IsWhole) (arg11 : Memref sig .tc .vmem S8x512 .f32) (harg11 : arg11.IsWhole) :
    Prog (TpuEff nD τ sig (Elt F) Λ₀ .tc) PUnit := do
  let ⟨v34, v37, v73, c4_i32⟩ : Σ' (v34 : F .f32) (v37 : FVec F S8x128 .f32) (v73 : IVec S8x128 32), BitVec 32 ← k0_part21 i arg1 harg1 arg2 harg2 arg3 harg3 arg4 harg4 arg5 harg5 arg6 harg6 arg7 harg7 arg8 harg8 arg9 harg9 arg10 harg10 arg11 harg11
  let ⟨v110, v115⟩ : Σ' (v110 : FVec F S8x128 .f32), FVec F S8x128 .f32 ← k0_part22 i arg1 harg1 arg2 harg2 arg3 harg3 arg4 harg4 arg5 harg5 arg6 harg6 arg7 harg7 arg8 harg8 arg9 harg9 arg10 harg10 arg11 harg11 v34 v37 v73 c4_i32
  let ⟨v125, v149, cst_55, v150⟩ : Σ' (v125 : F .f32) (v149 : FVec F S1024x512 .f32) (cst_55 : F .f32), FVec F S1024x512 .f32 ← k0_part23 i arg1 harg1 arg2 harg2 arg3 harg3 arg4 harg4 arg5 harg5 arg6 harg6 arg7 harg7 arg8 harg8 arg9 harg9 arg10 harg10 arg11 harg11 v110 v115
  let v184 : FVec F S1024x512 .fp8e4m3 ← k0_part24 i arg1 harg1 arg2 harg2 arg3 harg3 arg4 harg4 arg5 harg5 arg6 harg6 arg7 harg7 arg8 harg8 arg9 harg9 arg10 harg10 arg11 harg11 v125 v149 cst_55 v150
  let v216 : Vec F S1x1024x512 .f32 ← k0_part25 i arg1 harg1 arg2 harg2 arg3 harg3 arg4 harg4 arg5 harg5 arg6 harg6 arg7 harg7 arg8 harg8 arg9 harg9 arg10 harg10 arg11 harg11 v125 v184
  let ⟨v249, cst_105, v250⟩ : Σ' (v249 : FVec F S1024x512 .f32) (cst_105 : F .f32), FVec F S1024x512 .f32 ← k0_part26 i arg1 harg1 arg2 harg2 arg3 harg3 arg4 harg4 arg5 harg5 arg6 harg6 arg7 harg7 arg8 harg8 arg9 harg9 arg10 harg10 arg11 harg11 v125 v216
  let v284 : FVec F S1024x512 .fp8e4m3 ← k0_part27 i arg1 harg1 arg2 harg2 arg3 harg3 arg4 harg4 arg5 harg5 arg6 harg6 arg7 harg7 arg8 harg8 arg9 harg9 arg10 harg10 arg11 harg11 v125 v249 cst_105 v250
  let v285 : Vec F S1024x512 .fp8e4m3 ← Prog.lift (.load arg5 (Rect.unit (s := S1024x8192) ![0, 7680] S1024x512.size inb_S1024x8192_S1024x512_0_7680).toLoadRect (View.loadsAt_vmem h_S1024x512))
  Prog.lift (.store arg5 (Rect.unit (s := S1024x8192) ![0, 7680] S1024x512.size inb_S1024x8192_S1024x512_0_7680) v284 Finset.univ (View.stores_vmem h_S1024x512 (harg5.storeExact_slice rfl _ packedfp8e4m3_S1024x8192_S1024x512_0_7680) (fun _ => rfl)) (.inl rfl))
  pure ⟨⟩

set_option maxHeartbeats 4000000 in
/-- The epilogue's stores as pieces, with the proof that it ends with exactly those written and the scratch as it was. -/
noncomputable def runE (c : Dev nD) (i : grid0.Coords) (arg1 : Memref sig .tc .vmem S1024x2048 .bf16) (harg1 : arg1.IsWhole) (arg2 : Memref sig .tc .vmem S1x2048 .f32) (harg2 : arg2.IsWhole) (arg3 : Memref sig .tc .vmem S2048x512 .fp8e4m3) (harg3 : arg3.IsWhole) (arg4 : Memref sig .tc .vmem S1x512 .f32) (harg4 : arg4.IsWhole) (arg5 : Memref sig .tc .vmem S1024x8192 .fp8e4m3) (harg5 : arg5.IsWhole) (arg6 : Memref sig .tc .smem S1x1 .f32) (harg6 : arg6.IsWhole) (arg7 : Memref sig .tc .smem S1x1 .f32) (harg7 : arg7.IsWhole) (arg8 : Memref sig .tc .vmem S1024x2048 .fp8e4m3) (harg8 : arg8.IsWhole) (arg9 : Memref sig .tc .vmem S1024x1 .f32) (harg9 : arg9.IsWhole) (arg10 : Memref sig .tc .vmem S16x1024x512 .f32) (harg10 : arg10.IsWhole) (arg11 : Memref sig .tc .vmem S8x512 .f32) (harg11 : arg11.IsWhole)
    (x9 : Vec F S16x1024x512 .f32) (x10 : Vec F S8x512 .f32) :
    Σ' (L4 : List (View.Piece (Elt F) S1024x8192 .fp8e4m3)), Σ' (L5 : List (View.Piece (Elt F) S1x1 .f32)), { L6 : List (View.Piece (Elt F) S1x1 .f32) //
      ∀ (E : Set ℕ) (K : PUnit → sProp 𝕄),
        iprop((∃ d, owns (c : Thread nD τ) arg5 fullShare d) ∗ (∃ d, owns (c : Thread nD τ) arg6 fullShare d) ∗ (∃ d, owns (c : Thread nD τ) arg7 fullShare d) ∗ owns (c : Thread nD τ) arg10 fullShare x9 ∗ owns (c : Thread nD τ) arg11 fullShare x10
            ∗ (iprop((∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg10 fullShare x9 ∗ owns (c : Thread nD τ) arg11 fullShare x10) -∗ K ⟨⟩))
          ⊢ wp frame (wpE (defs₀ (F := F)) Variants.none c none) E (epi i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    unfold epi
    simp only [k0_part21_eq_skeleton, k0_part22_eq_skeleton, k0_part23_eq_skeleton, k0_part24_eq_skeleton, k0_part25_eq_skeleton, k0_part26_eq_skeleton, k0_part27_eq_skeleton]
    unfold owns
    iintro ⟨⟨%d4, %f4, -, H4⟩, ⟨%d5, %f5, -, H5⟩, ⟨%d6, %f6, -, H6⟩, ⟨%f9, %hf9, H9⟩, ⟨%f10, %hf10, H10⟩, Hk⟩
    obtain rfl := harg10.eq_unread hf9; obtain rfl := harg11.eq_unread hf10
    sl_exec
    sl_step
    iapply Hk
    isplitl [H4]; · iexists _; iexact H4
    isplitl [H5]; · iexists _; iexact H5
    isplitl [H6]; · iexists _; iexact H6
    isplitl [H9]
    · iexists _; isplitr; · ipureintro; exact harg10.read_unread _
      iexact H9
    iexists _; isplitr; · ipureintro; exact harg11.read_unread _
    iexact H10

end Cert.Kernel.Hand

end
-- ==== Proof.Kernel.StepLast.lean ====
module

public import proofs.«01_k».proof.Proof.Kernel.Steps
public import proofs.«01_k».proof.Proof.Kernel.Epilogue

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Idealize.ShloMosaic.ValueIdx

variable {F : FTy → Type} [FloatOps F]

local notation "𝕄" => MT nD τ sig Unit (Elt F) ℕ (UR sig nD τ) ℕ

/-- A load of one plane of the scratch. -/
theorem read_plane (a : Memref sig .tc .vmem S16x1024x512 .f32) (h : a.IsWhole) (x : Vec F S16x1024x512 .f32) (k : Fin 16)
    (o : Fin 3 → ℕ) (inb : ∀ a, o a + S1x1024x512.size a ≤ S16x1024x512.size a) (ho : o = ![k.val, 0, 0]) :
    View.readAt (Elt F) a.view (Rect.unit (s := S16x1024x512) o S1x1024x512.size inb).toLoadRect (h.unread x) = plane k x := by
  subst ho
  funext z
  rw [h.readAt_unread]
  have hz : (z 0).val < 1 := (z 0).isLt
  refine congrArg x (funext fun a => Fin.ext ?_)
  match a with
  | ⟨0, _⟩ => show k.val + 1 * (z 0).val = k.val; omega
  | ⟨1, _⟩ => show 0 + 1 * (z 1).val = (z 1).val; omega
  | ⟨2, _⟩ => show 0 + 1 * (z 2).val = (z 2).val; omega

/-- The pieces the epilogue stores into the codes, block by block. -/
theorem L4_raw (c : Dev nD) (i : grid0.Coords) (arg1 : Memref sig .tc .vmem S1024x2048 .bf16) (harg1 : arg1.IsWhole) (arg2 : Memref sig .tc .vmem S1x2048 .f32) (harg2 : arg2.IsWhole) (arg3 : Memref sig .tc .vmem S2048x512 .fp8e4m3) (harg3 : arg3.IsWhole) (arg4 : Memref sig .tc .vmem S1x512 .f32) (harg4 : arg4.IsWhole) (arg5 : Memref sig .tc .vmem S1024x8192 .fp8e4m3) (harg5 : arg5.IsWhole) (arg6 : Memref sig .tc .smem S1x1 .f32) (harg6 : arg6.IsWhole) (arg7 : Memref sig .tc .smem S1x1 .f32) (harg7 : arg7.IsWhole) (arg8 : Memref sig .tc .vmem S1024x2048 .fp8e4m3) (harg8 : arg8.IsWhole) (arg9 : Memref sig .tc .vmem S1024x1 .f32) (harg9 : arg9.IsWhole) (arg10 : Memref sig .tc .vmem S16x1024x512 .f32) (harg10 : arg10.IsWhole) (arg11 : Memref sig .tc .vmem S8x512 .f32) (harg11 : arg11.IsWhole) (x9 : Vec F S16x1024x512 .f32) (x10 : Vec F S8x512 .f32) : (runE c i arg1 harg1 arg2 harg2 arg3 harg3 arg4 harg4 arg5 harg5 arg6 harg6 arg7 harg7 arg8 harg8 arg9 harg9 arg10 harg10 arg11 harg11 x9 x10).1 = [⟨Rect.unit (s := S1024x8192) ![0, 7680] S1024x512.size inb_S1024x8192_S1024x512_0_7680, codesY (yinvF (View.readAt (Elt F) arg11.view (Rect.unit (s := S8x512) ![0, 0] S8x512.size inb_S8x512_S8x512_0_0).toLoadRect (harg11.unread x10))) (View.readAt (Elt F) arg10.view (Rect.unit (s := S16x1024x512) ![15, 0, 0] S1x1024x512.size inb_S16x1024x512_S1x1024x512_15_0_0).toLoadRect (harg10.unread x9))⟩, ⟨Rect.unit (s := S1024x8192) ![0, 7168] S1024x512.size inb_S1024x8192_S1024x512_0_7168, codesY (yinvF (View.readAt (Elt F) arg11.view (Rect.unit (s := S8x512) ![0, 0] S8x512.size inb_S8x512_S8x512_0_0).toLoadRect (harg11.unread x10))) (View.readAt (Elt F) arg10.view (Rect.unit (s := S16x1024x512) ![14, 0, 0] S1x1024x512.size inb_S16x1024x512_S1x1024x512_14_0_0).toLoadRect (harg10.unread x9))⟩, ⟨Rect.unit (s := S1024x8192) ![0, 6656] S1024x512.size inb_S1024x8192_S1024x512_0_6656, codesY (yinvF (View.readAt (Elt F) arg11.view (Rect.unit (s := S8x512) ![0, 0] S8x512.size inb_S8x512_S8x512_0_0).toLoadRect (harg11.unread x10))) (View.readAt (Elt F) arg10.view (Rect.unit (s := S16x1024x512) ![13, 0, 0] S1x1024x512.size inb_S16x1024x512_S1x1024x512_13_0_0).toLoadRect (harg10.unread x9))⟩, ⟨Rect.unit (s := S1024x8192) ![0, 6144] S1024x512.size inb_S1024x8192_S1024x512_0_6144, codesY (yinvF (View.readAt (Elt F) arg11.view (Rect.unit (s := S8x512) ![0, 0] S8x512.size inb_S8x512_S8x512_0_0).toLoadRect (harg11.unread x10))) (View.readAt (Elt F) arg10.view (Rect.unit (s := S16x1024x512) ![12, 0, 0] S1x1024x512.size inb_S16x1024x512_S1x1024x512_12_0_0).toLoadRect (harg10.unread x9))⟩, ⟨Rect.unit (s := S1024x8192) ![0, 5632] S1024x512.size inb_S1024x8192_S1024x512_0_5632, codesY (yinvF (View.readAt (Elt F) arg11.view (Rect.unit (s := S8x512) ![0, 0] S8x512.size inb_S8x512_S8x512_0_0).toLoadRect (harg11.unread x10))) (View.readAt (Elt F) arg10.view (Rect.unit (s := S16x1024x512) ![11, 0, 0] S1x1024x512.size inb_S16x1024x512_S1x1024x512_11_0_0).toLoadRect (harg10.unread x9))⟩, ⟨Rect.unit (s := S1024x8192) ![0, 5120] S1024x512.size inb_S1024x8192_S1024x512_0_5120, codesY (yinvF (View.readAt (Elt F) arg11.view (Rect.unit (s := S8x512) ![0, 0] S8x512.size inb_S8x512_S8x512_0_0).toLoadRect (harg11.unread x10))) (View.readAt (Elt F) arg10.view (Rect.unit (s := S16x1024x512) ![10, 0, 0] S1x1024x512.size inb_S16x1024x512_S1x1024x512_10_0_0).toLoadRect (harg10.unread x9))⟩, ⟨Rect.unit (s := S1024x8192) ![0, 4608] S1024x512.size inb_S1024x8192_S1024x512_0_4608, codesY (yinvF (View.readAt (Elt F) arg11.view (Rect.unit (s := S8x512) ![0, 0] S8x512.size inb_S8x512_S8x512_0_0).toLoadRect (harg11.unread x10))) (View.readAt (Elt F) arg10.view (Rect.unit (s := S16x1024x512) ![9, 0, 0] S1x1024x512.size inb_S16x1024x512_S1x1024x512_9_0_0).toLoadRect (harg10.unread x9))⟩, ⟨Rect.unit (s := S1024x8192) ![0, 4096] S1024x512.size inb_S1024x8192_S1024x512_0_4096, codesY (yinvF (View.readAt (Elt F) arg11.view (Rect.unit (s := S8x512) ![0, 0] S8x512.size inb_S8x512_S8x512_0_0).toLoadRect (harg11.unread x10))) (View.readAt (Elt F) arg10.view (Rect.unit (s := S16x1024x512) ![8, 0, 0] S1x1024x512.size inb_S16x1024x512_S1x1024x512_8_0_0).toLoadRect (harg10.unread x9))⟩, ⟨Rect.unit (s := S1024x8192) ![0, 3584] S1024x512.size inb_S1024x8192_S1024x512_0_3584, codesY (yinvF (View.readAt (Elt F) arg11.view (Rect.unit (s := S8x512) ![0, 0] S8x512.size inb_S8x512_S8x512_0_0).toLoadRect (harg11.unread x10))) (View.readAt (Elt F) arg10.view (Rect.unit (s := S16x1024x512) ![7, 0, 0] S1x1024x512.size inb_S16x1024x512_S1x1024x512_7_0_0).toLoadRect (harg10.unread x9))⟩, ⟨Rect.unit (s := S1024x8192) ![0, 3072] S1024x512.size inb_S1024x8192_S1024x512_0_3072, codesY (yinvF (View.readAt (Elt F) arg11.view (Rect.unit (s := S8x512) ![0, 0] S8x512.size inb_S8x512_S8x512_0_0).toLoadRect (harg11.unread x10))) (View.readAt (Elt F) arg10.view (Rect.unit (s := S16x1024x512) ![6, 0, 0] S1x1024x512.size inb_S16x1024x512_S1x1024x512_6_0_0).toLoadRect (harg10.unread x9))⟩, ⟨Rect.unit (s := S1024x8192) ![0, 2560] S1024x512.size inb_S1024x8192_S1024x512_0_2560, codesY (yinvF (View.readAt (Elt F) arg11.view (Rect.unit (s := S8x512) ![0, 0] S8x512.size inb_S8x512_S8x512_0_0).toLoadRect (harg11.unread x10))) (View.readAt (Elt F) arg10.view (Rect.unit (s := S16x1024x512) ![5, 0, 0] S1x1024x512.size inb_S16x1024x512_S1x1024x512_5_0_0).toLoadRect (harg10.unread x9))⟩, ⟨Rect.unit (s := S1024x8192) ![0, 2048] S1024x512.size inb_S1024x8192_S1024x512_0_2048, codesY (yinvF (View.readAt (Elt F) arg11.view (Rect.unit (s := S8x512) ![0, 0] S8x512.size inb_S8x512_S8x512_0_0).toLoadRect (harg11.unread x10))) (View.readAt (Elt F) arg10.view (Rect.unit (s := S16x1024x512) ![4, 0, 0] S1x1024x512.size inb_S16x1024x512_S1x1024x512_4_0_0).toLoadRect (harg10.unread x9))⟩, ⟨Rect.unit (s := S1024x8192) ![0, 1536] S1024x512.size inb_S1024x8192_S1024x512_0_1536, codesY (yinvF (View.readAt (Elt F) arg11.view (Rect.unit (s := S8x512) ![0, 0] S8x512.size inb_S8x512_S8x512_0_0).toLoadRect (harg11.unread x10))) (View.readAt (Elt F) arg10.view (Rect.unit (s := S16x1024x512) ![3, 0, 0] S1x1024x512.size inb_S16x1024x512_S1x1024x512_3_0_0).toLoadRect (harg10.unread x9))⟩, ⟨Rect.unit (s := S1024x8192) ![0, 1024] S1024x512.size inb_S1024x8192_S1024x512_0_1024, codesY (yinvF (View.readAt (Elt F) arg11.view (Rect.unit (s := S8x512) ![0, 0] S8x512.size inb_S8x512_S8x512_0_0).toLoadRect (harg11.unread x10))) (View.readAt (Elt F) arg10.view (Rect.unit (s := S16x1024x512) ![2, 0, 0] S1x1024x512.size inb_S16x1024x512_S1x1024x512_2_0_0).toLoadRect (harg10.unread x9))⟩, ⟨Rect.unit (s := S1024x8192) ![0, 512] S1024x512.size inb_S1024x8192_S1024x512_0_512, codesY (yinvF (View.readAt (Elt F) arg11.view (Rect.unit (s := S8x512) ![0, 0] S8x512.size inb_S8x512_S8x512_0_0).toLoadRect (harg11.unread x10))) (View.readAt (Elt F) arg10.view (Rect.unit (s := S16x1024x512) ![1, 0, 0] S1x1024x512.size inb_S16x1024x512_S1x1024x512_1_0_0).toLoadRect (harg10.unread x9))⟩, ⟨Rect.unit (s := S1024x8192) ![0, 0] S1024x512.size inb_S1024x8192_S1024x512_0_0, codesY (yinvF (View.readAt (Elt F) arg11.view (Rect.unit (s := S8x512) ![0, 0] S8x512.size inb_S8x512_S8x512_0_0).toLoadRect (harg11.unread x10))) (View.readAt (Elt F) arg10.view (Rect.unit (s := S16x1024x512) ![0, 0, 0] S1x1024x512.size inb_S16x1024x512_S1x1024x512_0_0_0).toLoadRect (harg10.unread x9))⟩] := rfl

/-- The stores of codes at the last point leave the product's codes. -/
theorem L4_eq (c : Dev nD) (i : grid0.Coords) (arg1 : Memref sig .tc .vmem S1024x2048 .bf16) (harg1 : arg1.IsWhole) (arg2 : Memref sig .tc .vmem S1x2048 .f32) (harg2 : arg2.IsWhole) (arg3 : Memref sig .tc .vmem S2048x512 .fp8e4m3) (harg3 : arg3.IsWhole) (arg4 : Memref sig .tc .vmem S1x512 .f32) (harg4 : arg4.IsWhole) (arg5 : Memref sig .tc .vmem S1024x8192 .fp8e4m3) (harg5 : arg5.IsWhole) (arg6 : Memref sig .tc .smem S1x1 .f32) (harg6 : arg6.IsWhole) (arg7 : Memref sig .tc .smem S1x1 .f32) (harg7 : arg7.IsWhole) (arg8 : Memref sig .tc .vmem S1024x2048 .fp8e4m3) (harg8 : arg8.IsWhole) (arg9 : Memref sig .tc .vmem S1024x1 .f32) (harg9 : arg9.IsWhole) (arg10 : Memref sig .tc .vmem S16x1024x512 .f32) (harg10 : arg10.IsWhole) (arg11 : Memref sig .tc .vmem S8x512 .f32) (harg11 : arg11.IsWhole) (x9 : Vec F S16x1024x512 .f32) (x10 : Vec F S8x512 .f32) : (runE c i arg1 harg1 arg2 harg2 arg3 harg3 arg4 harg4 arg5 harg5 arg6 harg6 arg7 harg7 arg8 harg8 arg9 harg9 arg10 harg10 arg11 harg11 x9 x10).1 = [⟨Rect.unit (s := S1024x8192) ![0, 7680] S1024x512.size inb_S1024x8192_S1024x512_0_7680, codesY (yinvF x10) (plane 15 x9)⟩, ⟨Rect.unit (s := S1024x8192) ![0, 7168] S1024x512.size inb_S1024x8192_S1024x512_0_7168, codesY (yinvF x10) (plane 14 x9)⟩, ⟨Rect.unit (s := S1024x8192) ![0, 6656] S1024x512.size inb_S1024x8192_S1024x512_0_6656, codesY (yinvF x10) (plane 13 x9)⟩, ⟨Rect.unit (s := S1024x8192) ![0, 6144] S1024x512.size inb_S1024x8192_S1024x512_0_6144, codesY (yinvF x10) (plane 12 x9)⟩, ⟨Rect.unit (s := S1024x8192) ![0, 5632] S1024x512.size inb_S1024x8192_S1024x512_0_5632, codesY (yinvF x10) (plane 11 x9)⟩, ⟨Rect.unit (s := S1024x8192) ![0, 5120] S1024x512.size inb_S1024x8192_S1024x512_0_5120, codesY (yinvF x10) (plane 10 x9)⟩, ⟨Rect.unit (s := S1024x8192) ![0, 4608] S1024x512.size inb_S1024x8192_S1024x512_0_4608, codesY (yinvF x10) (plane 9 x9)⟩, ⟨Rect.unit (s := S1024x8192) ![0, 4096] S1024x512.size inb_S1024x8192_S1024x512_0_4096, codesY (yinvF x10) (plane 8 x9)⟩, ⟨Rect.unit (s := S1024x8192) ![0, 3584] S1024x512.size inb_S1024x8192_S1024x512_0_3584, codesY (yinvF x10) (plane 7 x9)⟩, ⟨Rect.unit (s := S1024x8192) ![0, 3072] S1024x512.size inb_S1024x8192_S1024x512_0_3072, codesY (yinvF x10) (plane 6 x9)⟩, ⟨Rect.unit (s := S1024x8192) ![0, 2560] S1024x512.size inb_S1024x8192_S1024x512_0_2560, codesY (yinvF x10) (plane 5 x9)⟩, ⟨Rect.unit (s := S1024x8192) ![0, 2048] S1024x512.size inb_S1024x8192_S1024x512_0_2048, codesY (yinvF x10) (plane 4 x9)⟩, ⟨Rect.unit (s := S1024x8192) ![0, 1536] S1024x512.size inb_S1024x8192_S1024x512_0_1536, codesY (yinvF x10) (plane 3 x9)⟩, ⟨Rect.unit (s := S1024x8192) ![0, 1024] S1024x512.size inb_S1024x8192_S1024x512_0_1024, codesY (yinvF x10) (plane 2 x9)⟩, ⟨Rect.unit (s := S1024x8192) ![0, 512] S1024x512.size inb_S1024x8192_S1024x512_0_512, codesY (yinvF x10) (plane 1 x9)⟩, ⟨Rect.unit (s := S1024x8192) ![0, 0] S1024x512.size inb_S1024x8192_S1024x512_0_0, codesY (yinvF x10) (plane 0 x9)⟩] := by
  rw [L4_raw, readAll arg11 harg11 x10 ![0, 0] inb_S8x512_S8x512_0_0]
  simp only [read_plane arg10 harg10 x9 0 ![0, 0, 0] _ rfl, read_plane arg10 harg10 x9 1 ![1, 0, 0] _ rfl, read_plane arg10 harg10 x9 2 ![2, 0, 0] _ rfl, read_plane arg10 harg10 x9 3 ![3, 0, 0] _ rfl, read_plane arg10 harg10 x9 4 ![4, 0, 0] _ rfl, read_plane arg10 harg10 x9 5 ![5, 0, 0] _ rfl, read_plane arg10 harg10 x9 6 ![6, 0, 0] _ rfl, read_plane arg10 harg10 x9 7 ![7, 0, 0] _ rfl, read_plane arg10 harg10 x9 8 ![8, 0, 0] _ rfl, read_plane arg10 harg10 x9 9 ![9, 0, 0] _ rfl, read_plane arg10 harg10 x9 10 ![10, 0, 0] _ rfl, read_plane arg10 harg10 x9 11 ![11, 0, 0] _ rfl, read_plane arg10 harg10 x9 12 ![12, 0, 0] _ rfl, read_plane arg10 harg10 x9 13 ![13, 0, 0] _ rfl, read_plane arg10 harg10 x9 14 ![14, 0, 0] _ rfl, read_plane arg10 harg10 x9 15 ![15, 0, 0] _ rfl]

/-- What the epilogue's pieces leave, whatever was there before. -/
theorem L4_read (c : Dev nD) (i : grid0.Coords) (arg1 : Memref sig .tc .vmem S1024x2048 .bf16) (harg1 : arg1.IsWhole) (arg2 : Memref sig .tc .vmem S1x2048 .f32) (harg2 : arg2.IsWhole) (arg3 : Memref sig .tc .vmem S2048x512 .fp8e4m3) (harg3 : arg3.IsWhole) (arg4 : Memref sig .tc .vmem S1x512 .f32) (harg4 : arg4.IsWhole) (arg5 : Memref sig .tc .vmem S1024x8192 .fp8e4m3) (harg5 : arg5.IsWhole) (arg6 : Memref sig .tc .smem S1x1 .f32) (harg6 : arg6.IsWhole) (arg7 : Memref sig .tc .smem S1x1 .f32) (harg7 : arg7.IsWhole) (arg8 : Memref sig .tc .vmem S1024x2048 .fp8e4m3) (harg8 : arg8.IsWhole) (arg9 : Memref sig .tc .vmem S1024x1 .f32) (harg9 : arg9.IsWhole) (arg10 : Memref sig .tc .vmem S16x1024x512 .f32) (harg10 : arg10.IsWhole) (arg11 : Memref sig .tc .vmem S8x512 .f32) (harg11 : arg11.IsWhole) (x9 : Vec F S16x1024x512 .f32) (x10 : Vec F S8x512 .f32) (f : arg5.view.ty.Contents (Elt F)) :
    arg5.view.read (Elt F) (arg5.view.writes (Elt F) f (runE c i arg1 harg1 arg2 harg2 arg3 harg3 arg4 harg4 arg5 harg5 arg6 harg6 arg7 harg7 arg8 harg8 arg9 harg9 arg10 harg10 arg11 harg11 x9 x10).1) = ycF x9 x10 := by
  rw [L4_eq]
  funext y
  refine View.read_writes_apply_of_pieces arg5.view f (ycF x9 x10) _ ?_ y ?_
  · intro p hp
    simp only [List.mem_cons, List.not_mem_nil, or_false] at hp
    rcases hp with rfl | rfl | rfl | rfl | rfl | rfl | rfl | rfl | rfl | rfl | rfl | rfl | rfl | rfl | rfl | rfl
    · intro z; exact (ycF_col x9 x10 15 z _ (by show 0 + 1 * (z 0).val = (z 0).val; omega) (by show 7680 + 1 * (z 1).val = 512 * 15 + (z 1).val; omega)).symm
    · intro z; exact (ycF_col x9 x10 14 z _ (by show 0 + 1 * (z 0).val = (z 0).val; omega) (by show 7168 + 1 * (z 1).val = 512 * 14 + (z 1).val; omega)).symm
    · intro z; exact (ycF_col x9 x10 13 z _ (by show 0 + 1 * (z 0).val = (z 0).val; omega) (by show 6656 + 1 * (z 1).val = 512 * 13 + (z 1).val; omega)).symm
    · intro z; exact (ycF_col x9 x10 12 z _ (by show 0 + 1 * (z 0).val = (z 0).val; omega) (by show 6144 + 1 * (z 1).val = 512 * 12 + (z 1).val; omega)).symm
    · intro z; exact (ycF_col x9 x10 11 z _ (by show 0 + 1 * (z 0).val = (z 0).val; omega) (by show 5632 + 1 * (z 1).val = 512 * 11 + (z 1).val; omega)).symm
    · intro z; exact (ycF_col x9 x10 10 z _ (by show 0 + 1 * (z 0).val = (z 0).val; omega) (by show 5120 + 1 * (z 1).val = 512 * 10 + (z 1).val; omega)).symm
    · intro z; exact (ycF_col x9 x10 9 z _ (by show 0 + 1 * (z 0).val = (z 0).val; omega) (by show 4608 + 1 * (z 1).val = 512 * 9 + (z 1).val; omega)).symm
    · intro z; exact (ycF_col x9 x10 8 z _ (by show 0 + 1 * (z 0).val = (z 0).val; omega) (by show 4096 + 1 * (z 1).val = 512 * 8 + (z 1).val; omega)).symm
    · intro z; exact (ycF_col x9 x10 7 z _ (by show 0 + 1 * (z 0).val = (z 0).val; omega) (by show 3584 + 1 * (z 1).val = 512 * 7 + (z 1).val; omega)).symm
    · intro z; exact (ycF_col x9 x10 6 z _ (by show 0 + 1 * (z 0).val = (z 0).val; omega) (by show 3072 + 1 * (z 1).val = 512 * 6 + (z 1).val; omega)).symm
    · intro z; exact (ycF_col x9 x10 5 z _ (by show 0 + 1 * (z 0).val = (z 0).val; omega) (by show 2560 + 1 * (z 1).val = 512 * 5 + (z 1).val; omega)).symm
    · intro z; exact (ycF_col x9 x10 4 z _ (by show 0 + 1 * (z 0).val = (z 0).val; omega) (by show 2048 + 1 * (z 1).val = 512 * 4 + (z 1).val; omega)).symm
    · intro z; exact (ycF_col x9 x10 3 z _ (by show 0 + 1 * (z 0).val = (z 0).val; omega) (by show 1536 + 1 * (z 1).val = 512 * 3 + (z 1).val; omega)).symm
    · intro z; exact (ycF_col x9 x10 2 z _ (by show 0 + 1 * (z 0).val = (z 0).val; omega) (by show 1024 + 1 * (z 1).val = 512 * 2 + (z 1).val; omega)).symm
    · intro z; exact (ycF_col x9 x10 1 z _ (by show 0 + 1 * (z 0).val = (z 0).val; omega) (by show 512 + 1 * (z 1).val = 512 * 1 + (z 1).val; omega)).symm
    · intro z; exact (ycF_col x9 x10 0 z _ (by show 0 + 1 * (z 0).val = (z 0).val; omega) (by show 0 + 1 * (z 1).val = 512 * 0 + (z 1).val; omega)).symm
  · have hy0 : (y 0).val < 1024 := (y 0).isLt
    have hy1 : (y 1).val < 8192 := (y 1).isLt
    have key : ∀ (k : ℕ) (inb : ∀ a, (![0, 512 * k] : Fin 2 → ℕ) a + S1024x512.size a ≤ S1024x8192.size a), (y 1).val / 512 = k → y ∈ (Rect.unit (s := S1024x8192) ![0, 512 * k] S1024x512.size inb).set := by
      intro k inb hk
      rw [Rect.mem_set_unit]
      intro a
      match a with
      | ⟨0, _⟩ => exact ⟨Nat.zero_le _, (by show (y 0).val < 0 + 1024; omega)⟩
      | ⟨1, _⟩ => exact ⟨(by show 512 * k ≤ (y 1).val; omega), (by show (y 1).val < 512 * k + 512; omega)⟩
    rcases (show (y 1).val / 512 = 15 ∨ (y 1).val / 512 = 14 ∨ (y 1).val / 512 = 13 ∨ (y 1).val / 512 = 12 ∨ (y 1).val / 512 = 11 ∨ (y 1).val / 512 = 10 ∨ (y 1).val / 512 = 9 ∨ (y 1).val / 512 = 8 ∨ (y 1).val / 512 = 7 ∨ (y 1).val / 512 = 6 ∨ (y 1).val / 512 = 5 ∨ (y 1).val / 512 = 4 ∨ (y 1).val / 512 = 3 ∨ (y 1).val / 512 = 2 ∨ (y 1).val / 512 = 1 ∨ (y 1).val / 512 = 0 by omega) with h | h | h | h | h | h | h | h | h | h | h | h | h | h | h | h
    · exact ⟨_, (List.mem_cons_self), key 15 inb_S1024x8192_S1024x512_0_7680 h⟩
    · exact ⟨_, (List.mem_cons_of_mem _ (List.mem_cons_self)), key 14 inb_S1024x8192_S1024x512_0_7168 h⟩
    · exact ⟨_, (List.mem_cons_of_mem _ (List.mem_cons_of_mem _ (List.mem_cons_self))), key 13 inb_S1024x8192_S1024x512_0_6656 h⟩
    · exact ⟨_, (List.mem_cons_of_mem _ (List.mem_cons_of_mem _ (List.mem_cons_of_mem _ (List.mem_cons_self)))), key 12 inb_S1024x8192_S1024x512_0_6144 h⟩
    · exact ⟨_, (List.mem_cons_of_mem _ (List.mem_cons_of_mem _ (List.mem_cons_of_mem _ (List.mem_cons_of_mem _ (List.mem_cons_self))))), key 11 inb_S1024x8192_S1024x512_0_5632 h⟩
    · exact ⟨_, (List.mem_cons_of_mem _ (List.mem_cons_of_mem _ (List.mem_cons_of_mem _ (List.mem_cons_of_mem _ (List.mem_cons_of_mem _ (List.mem_cons_self)))))), key 10 inb_S1024x8192_S1024x512_0_5120 h⟩
    · exact ⟨_, (List.mem_cons_of_mem _ (List.mem_cons_of_mem _ (List.mem_cons_of_mem _ (List.mem_cons_of_mem _ (List.mem_cons_of_mem _ (List.mem_cons_of_mem _ (List.mem_cons_self))))))), key 9 inb_S1024x8192_S1024x512_0_4608 h⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_self)))))))), key 8 inb_S1024x8192_S1024x512_0_4096 h⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), key 7 inb_S1024x8192_S1024x512_0_3584 h⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), key 6 inb_S1024x8192_S1024x512_0_3072 h⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), key 5 inb_S1024x8192_S1024x512_0_2560 h⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), key 4 inb_S1024x8192_S1024x512_0_2048 h⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), key 3 inb_S1024x8192_S1024x512_0_1536 h⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), key 2 inb_S1024x8192_S1024x512_0_1024 h⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), key 1 inb_S1024x8192_S1024x512_0_512 h⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), key 0 inb_S1024x8192_S1024x512_0_0 h⟩

/-- A cell that is stored reads as what was stored. -/
theorem cell_read (a : Memref sig .tc .smem S1x1 .f32) (f : a.view.ty.Contents (Elt F)) (p : Vec F S1x1 .f32) (inb : ∀ a, (![0, 0] : Fin 2 → ℕ) a + S1x1.size a ≤ S1x1.size a)  :
    a.view.read (Elt F) (a.view.writes (Elt F) f [⟨Rect.unit (s := S1x1) ![0, 0] S1x1.size inb, p⟩]) = p :=
  View.read_writes_full a.view f inb p _

/-- The cell of the scale reads as the scale. -/
theorem L5_read (c : Dev nD) (i : grid0.Coords) (arg1 : Memref sig .tc .vmem S1024x2048 .bf16) (harg1 : arg1.IsWhole) (arg2 : Memref sig .tc .vmem S1x2048 .f32) (harg2 : arg2.IsWhole) (arg3 : Memref sig .tc .vmem S2048x512 .fp8e4m3) (harg3 : arg3.IsWhole) (arg4 : Memref sig .tc .vmem S1x512 .f32) (harg4 : arg4.IsWhole) (arg5 : Memref sig .tc .vmem S1024x8192 .fp8e4m3) (harg5 : arg5.IsWhole) (arg6 : Memref sig .tc .smem S1x1 .f32) (harg6 : arg6.IsWhole) (arg7 : Memref sig .tc .smem S1x1 .f32) (harg7 : arg7.IsWhole) (arg8 : Memref sig .tc .vmem S1024x2048 .fp8e4m3) (harg8 : arg8.IsWhole) (arg9 : Memref sig .tc .vmem S1024x1 .f32) (harg9 : arg9.IsWhole) (arg10 : Memref sig .tc .vmem S16x1024x512 .f32) (harg10 : arg10.IsWhole) (arg11 : Memref sig .tc .vmem S8x512 .f32) (harg11 : arg11.IsWhole) (x9 : Vec F S16x1024x512 .f32) (x10 : Vec F S8x512 .f32) (f : arg6.view.ty.Contents (Elt F)) :
    arg6.view.read (Elt F) (arg6.view.writes (Elt F) f (runE c i arg1 harg1 arg2 harg2 arg3 harg3 arg4 harg4 arg5 harg5 arg6 harg6 arg7 harg7 arg8 harg8 arg9 harg9 arg10 harg10 arg11 harg11 x9 x10).2.1) = fun _ => yscF x10 :=
  (cell_read arg6 f (fun _ => yscF (View.readAt (Elt F) arg11.view (Rect.unit (s := S8x512) ![0, 0] S8x512.size inb_S8x512_S8x512_0_0).toLoadRect (harg11.unread x10))) inb_S1x1_S1x1_0_0).trans (by rw [readAll])

/-- The cell of the maximum reads as the maximum. -/
theorem L6_read (c : Dev nD) (i : grid0.Coords) (arg1 : Memref sig .tc .vmem S1024x2048 .bf16) (harg1 : arg1.IsWhole) (arg2 : Memref sig .tc .vmem S1x2048 .f32) (harg2 : arg2.IsWhole) (arg3 : Memref sig .tc .vmem S2048x512 .fp8e4m3) (harg3 : arg3.IsWhole) (arg4 : Memref sig .tc .vmem S1x512 .f32) (harg4 : arg4.IsWhole) (arg5 : Memref sig .tc .vmem S1024x8192 .fp8e4m3) (harg5 : arg5.IsWhole) (arg6 : Memref sig .tc .smem S1x1 .f32) (harg6 : arg6.IsWhole) (arg7 : Memref sig .tc .smem S1x1 .f32) (harg7 : arg7.IsWhole) (arg8 : Memref sig .tc .vmem S1024x2048 .fp8e4m3) (harg8 : arg8.IsWhole) (arg9 : Memref sig .tc .vmem S1024x1 .f32) (harg9 : arg9.IsWhole) (arg10 : Memref sig .tc .vmem S16x1024x512 .f32) (harg10 : arg10.IsWhole) (arg11 : Memref sig .tc .vmem S8x512 .f32) (harg11 : arg11.IsWhole) (x9 : Vec F S16x1024x512 .f32) (x10 : Vec F S8x512 .f32) (f : arg7.view.ty.Contents (Elt F)) :
    arg7.view.read (Elt F) (arg7.view.writes (Elt F) f (runE c i arg1 harg1 arg2 harg2 arg3 harg3 arg4 harg4 arg5 harg5 arg6 harg6 arg7 harg7 arg8 harg8 arg9 harg9 arg10 harg10 arg11 harg11 x9 x10).2.2.1) = fun _ => amaxF x10 :=
  (cell_read arg7 f (fun _ => amaxF (View.readAt (Elt F) arg11.view (Rect.unit (s := S8x512) ![0, 0] S8x512.size inb_S8x512_S8x512_0_0).toLoadRect (harg11.unread x10))) inb_S1x1_S1x1_0_0).trans (by rw [readAll])

set_option maxHeartbeats 4000000 in
/-- The body at the last point. -/
theorem stepC (c : Dev nD) (i : grid0.Coords) (arg1 : Memref sig .tc .vmem S1024x2048 .bf16) (harg1 : arg1.IsWhole) (arg2 : Memref sig .tc .vmem S1x2048 .f32) (harg2 : arg2.IsWhole) (arg3 : Memref sig .tc .vmem S2048x512 .fp8e4m3) (harg3 : arg3.IsWhole) (arg4 : Memref sig .tc .vmem S1x512 .f32) (harg4 : arg4.IsWhole) (arg5 : Memref sig .tc .vmem S1024x8192 .fp8e4m3) (harg5 : arg5.IsWhole) (arg6 : Memref sig .tc .smem S1x1 .f32) (harg6 : arg6.IsWhole) (arg7 : Memref sig .tc .smem S1x1 .f32) (harg7 : arg7.IsWhole) (arg8 : Memref sig .tc .vmem S1024x2048 .fp8e4m3) (harg8 : arg8.IsWhole) (arg9 : Memref sig .tc .vmem S1024x1 .f32) (harg9 : arg9.IsWhole) (arg10 : Memref sig .tc .vmem S16x1024x512 .f32) (harg10 : arg10.IsWhole) (arg11 : Memref sig .tc .vmem S8x512 .f32) (harg11 : arg11.IsWhole) (hc0 : ¬cond0_0 i) (hc1 : cond0_1 i)
    (x0 : Vec F S1024x2048 .bf16) (x1 : Vec F S1x2048 .f32) (x2 : Vec F S2048x512 .fp8e4m3) (x3 : Vec F S1x512 .f32) (x7 : Vec F S1024x2048 .fp8e4m3) (x8 : Vec F S1024x1 .f32) (x9 : Vec F S16x1024x512 .f32) (x10 : Vec F S8x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare x7 ∗ owns (c : Thread nD τ) arg9 fullShare x8 ∗ owns (c : Thread nD τ) arg10 fullShare x9 ∗ owns (c : Thread nD τ) arg11 fullShare x10
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (ycF (yPut (i 0).val x9 (yF x7 x2 x8 x3)) (amF x7 x2 x8 x3 x10)) ∗ owns (c : Thread nD τ) arg6 fullShare (fun _ => yscF (amF x7 x2 x8 x3 x10)) ∗ owns (c : Thread nD τ) arg7 fullShare (fun _ => amaxF (amF x7 x2 x8 x3 x10)) ∗ owns (c : Thread nD τ) arg8 fullShare x7 ∗ owns (c : Thread nD τ) arg9 fullShare x8 ∗ owns (c : Thread nD τ) arg10 fullShare (yPut (i 0).val x9 (yF x7 x2 x8 x3)) ∗ owns (c : Thread nD τ) arg11 fullShare (amF x7 x2 x8 x3 x10)) -∗ K ⟨⟩))
      ⊢ wp frame (wpE (defs₀ (F := F)) Variants.none c none) E (cc0_rmsnorm_fp8_linear i arg1 harg1 arg2 harg2 arg3 harg3 arg4 harg4 arg5 harg5 arg6 harg6 arg7 harg7 arg8 harg8 arg9 harg9 arg10 harg10 arg11 harg11) K := by
  simp only [cc0_rmsnorm_fp8_linear_eq_skeleton]; unfold cc0_rmsnorm_fp8_linear_skel
  iintro ⟨H0, H1, H2, H3, H4, H5, H6, H7, H8, H9, H10, Hk⟩
  unfold owns
  icases H0 with ⟨%f0, %hf0, H0⟩
  icases H1 with ⟨%f1, %hf1, H1⟩
  icases H2 with ⟨%f2, %hf2, H2⟩
  icases H3 with ⟨%f3, %hf3, H3⟩
  icases H7 with ⟨%f7, %hf7, H7⟩
  icases H8 with ⟨%f8, %hf8, H8⟩
  icases H9 with ⟨%f9, %hf9, H9⟩
  icases H10 with ⟨%f10, %hf10, H10⟩
  obtain rfl := harg1.eq_unread hf0; obtain rfl := harg2.eq_unread hf1; obtain rfl := harg3.eq_unread hf2; obtain rfl := harg4.eq_unread hf3; obtain rfl := harg8.eq_unread hf7; obtain rfl := harg9.eq_unread hf8; obtain rfl := harg10.eq_unread hf9; obtain rfl := harg11.eq_unread hf10
  set_option sl_exec.stopBefore "k0_cond2" in sl_exec (disch := sl_exact hc0)
  rw [dif_pos hc1]
  iapply ((runE c i arg1 harg1 arg2 harg2 arg3 harg3 arg4 harg4 arg5 harg5 arg6 harg6 arg7 harg7 arg8 harg8 arg9 harg9 arg10 harg10 arg11 harg11 (yPut (i 0).val x9 (yF x7 x2 x8 x3)) (amF x7 x2 x8 x3 x10)).2.2.2 E K)
  isplitl [H4]; · iexact H4
  isplitl [H5]; · iexact H5
  isplitl [H6]; · iexact H6
  isplitl [H9]
  · unfold owns; iexists _; isplitr
    swap; · iexact H9
    ipureintro
    exact (read_yPut arg10 harg10 i x9 (k0_pay3 (View.readAt (Elt F) arg8.view (Rect.unit (s := S1024x2048) ![0, 0] S1024x2048.size inb_S1024x2048_S1024x2048_0_0).toLoadRect (harg8.unread x7)) (View.readAt (Elt F) arg3.view (Rect.unit (s := S2048x512) ![0, 0] S2048x512.size inb_S2048x512_S2048x512_0_0).toLoadRect (harg3.unread x2)) (View.readAt (Elt F) arg9.view (Rect.unit (s := S1024x1) ![0, 0] S1024x1.size inb_S1024x1_S1024x1_0_0).toLoadRect (harg9.unread x8)) (View.readAt (Elt F) arg4.view (Rect.unit (s := S1x512) ![0, 0] S1x512.size inb_S1x512_S1x512_0_0).toLoadRect (harg4.unread x3)))).trans (congrArg (yPut (i 0).val x9) (by rw [readAll, readAll, readAll, readAll]; rfl))
  isplitl [H10]
  · unfold owns; iexists _; isplitr
    swap; · iexact H10
    ipureintro
    exact (View.read_writes_full arg11.view (harg11.unread x10) inb_S8x512_S8x512_0_0 (k0_pay4 (View.readAt (Elt F) arg8.view (Rect.unit (s := S1024x2048) ![0, 0] S1024x2048.size inb_S1024x2048_S1024x2048_0_0).toLoadRect (harg8.unread x7)) (View.readAt (Elt F) arg3.view (Rect.unit (s := S2048x512) ![0, 0] S2048x512.size inb_S2048x512_S2048x512_0_0).toLoadRect (harg3.unread x2)) (View.readAt (Elt F) arg9.view (Rect.unit (s := S1024x1) ![0, 0] S1024x1.size inb_S1024x1_S1024x1_0_0).toLoadRect (harg9.unread x8)) (View.readAt (Elt F) arg4.view (Rect.unit (s := S1x512) ![0, 0] S1x512.size inb_S1x512_S1x512_0_0).toLoadRect (harg4.unread x3)) (View.readAt (Elt F) arg11.view (Rect.unit (s := S8x512) ![0, 0] S8x512.size inb_S8x512_S8x512_0_0).toLoadRect (harg11.unread x10))) _).trans (by rw [readAll, readAll, readAll, readAll, readAll]; rfl)
  iintro ⟨⟨%e4, H4⟩, ⟨%e5, H5⟩, ⟨%e6, H6⟩, H9, H10⟩
  iapply Hk
  isplitl [H0]
  · iexists _; isplitr
    swap; · iexact H0
    ipureintro; exact harg1.read_unread _
  isplitl [H1]
  · iexists _; isplitr
    swap; · iexact H1
    ipureintro; exact harg2.read_unread _
  isplitl [H2]
  · iexists _; isplitr
    swap; · iexact H2
    ipureintro; exact harg3.read_unread _
  isplitl [H3]
  · iexists _; isplitr
    swap; · iexact H3
    ipureintro; exact harg4.read_unread _
  isplitl [H4]
  · iexists _; isplitr
    swap; · iexact H4
    ipureintro; exact L4_read c i arg1 harg1 arg2 harg2 arg3 harg3 arg4 harg4 arg5 harg5 arg6 harg6 arg7 harg7 arg8 harg8 arg9 harg9 arg10 harg10 arg11 harg11 (yPut (i 0).val x9 (yF x7 x2 x8 x3)) (amF x7 x2 x8 x3 x10) e4
  isplitl [H5]
  · iexists _; isplitr
    swap; · iexact H5
    ipureintro; exact L5_read c i arg1 harg1 arg2 harg2 arg3 harg3 arg4 harg4 arg5 harg5 arg6 harg6 arg7 harg7 arg8 harg8 arg9 harg9 arg10 harg10 arg11 harg11 (yPut (i 0).val x9 (yF x7 x2 x8 x3)) (amF x7 x2 x8 x3 x10) e5
  isplitl [H6]
  · iexists _; isplitr
    swap; · iexact H6
    ipureintro; exact L6_read c i arg1 harg1 arg2 harg2 arg3 harg3 arg4 harg4 arg5 harg5 arg6 harg6 arg7 harg7 arg8 harg8 arg9 harg9 arg10 harg10 arg11 harg11 (yPut (i 0).val x9 (yF x7 x2 x8 x3)) (amF x7 x2 x8 x3 x10) e6
  isplitl [H7]
  · iexists _; isplitr
    swap; · iexact H7
    ipureintro; exact harg8.read_unread _
  isplitl [H8]
  · iexists _; isplitr
    swap; · iexact H8
    ipureintro; exact harg9.read_unread _
  isplitl [H9]; · unfold owns; iexact H9
  unfold owns; iexact H10

end Cert.Kernel.Hand

end
-- ==== Proof.Kernel.Data.lean ====
module

public import proofs.«01_k».proof.Proof.Kernel.StepLast
public import Idealize.ShloMosaic.Lib.Pipeline.TableIdle

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the windows are idle, and where they are written back -/

/-- The inputs are read at every point. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- The three results of the product are written at the last point only, and written back there. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel
/-- The codes and scales of the activations are written at the first point, and written back at the last. -/
theorem liveAt0_7 : ∀ t : Fin cfg0.N, cond0_0 (grid0.coords t) → cfg0.idle 7 (grid0.coords t) = false := by decide +kernel
theorem idleAt0_7 : ∀ t : Fin cfg0.N, ¬cond0_0 (grid0.coords t) → cfg0.idle 7 (grid0.coords t) = true := by decide +kernel
theorem noFlush0_7 : ∀ t : Fin cfg0.N, ¬cond0_1 (grid0.coords t) → (cfg0.win 7).flush t = false := by decide +kernel
theorem flush0_7_last : ∀ t : Fin cfg0.N, cond0_1 (grid0.coords t) → (cfg0.win 7).flush t = true := by decide +kernel
/-- Whether the window's buffer holds nothing the body stored, position by position: only before the first point and
    after the last. -/
def freshTab0_7 : ℕ → Bool
  | 0 => true
  | n + 1 => (0x8000 : ℕ).testBit n
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
theorem notFresh0_7 : ∀ t : Fin cfg0.N, ¬cond0_0 (grid0.coords t) → cfg0.fresh 7 t.val = false := by
  intro t; rw [fresh0_7_eq t]; revert t; decide +kernel
/-- The scales, as the codes. -/
theorem liveAt0_8 : ∀ t : Fin cfg0.N, cond0_0 (grid0.coords t) → cfg0.idle 8 (grid0.coords t) = false := by decide +kernel
theorem idleAt0_8 : ∀ t : Fin cfg0.N, ¬cond0_0 (grid0.coords t) → cfg0.idle 8 (grid0.coords t) = true := by decide +kernel
theorem noFlush0_8 : ∀ t : Fin cfg0.N, ¬cond0_1 (grid0.coords t) → (cfg0.win 8).flush t = false := by decide +kernel
theorem flush0_8_last : ∀ t : Fin cfg0.N, cond0_1 (grid0.coords t) → (cfg0.win 8).flush t = true := by decide +kernel
/-- Whether the window's buffer holds nothing the body stored, position by position: only before the first point and
    after the last. -/
def freshTab0_8 : ℕ → Bool
  | 0 => true
  | n + 1 => (0x8000 : ℕ).testBit n
theorem freshTab0_8_step : ∀ t : Fin cfg0.N,
    freshTab0_8 (t.val + 1) = ((cfg0.win 8).flush t || (cfg0.idle 8 (cfg0.grid.coords t) && freshTab0_8 t.val)) := by decide +kernel
theorem fresh0_8_eq (t : Fin cfg0.N) : cfg0.fresh 8 t.val = freshTab0_8 t.val :=
  Pipeline.Cfg.fresh_tab cfg0 8 freshTab0_8 rfl freshTab0_8_step t.val (Nat.le_of_lt t.isLt)
theorem notFresh0_8 : ∀ t : Fin cfg0.N, ¬cond0_0 (grid0.coords t) → cfg0.fresh 8 t.val = false := by
  intro t; rw [fresh0_8_eq t]; revert t; decide +kernel

/-! ## The memrefs the body is called with -/

/-- The buffers that a point's body is given, one after the other, and that each is whole. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x8192 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .smem S1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x2048 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1 .f32 := win0_8.stage (cfg0.slots t 8)
abbrev hs0_8 (t : Fin cfg0.N) : (ms0_8 t).IsWhole := hstage0_8 ((cfg0.slots t 8).cast nbuf0_8)
/-- The scratch product. -/
abbrev scM0_0 : Memref sig .tc .vmem S16x1024x512 .f32 := Memref.whole cc0_scratch0
/-- The scratch maxima. -/
abbrev scM0_1 : Memref sig .tc .vmem S8x512 .f32 := Memref.whole cc0_scratch1

/-- The launch's invariant with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- A point's coordinate is its number. -/
theorem coords_val (t : Fin cfg0.N) : (grid0.coords t 0).val = t.val := by
  have ht : t.val < 16 := Nat.lt_of_lt_of_eq t.isLt N_0
  have e0 : (grid0.coords t 0).val = t.val / 1 % 16 := Pipeline.Grid.coords_val t 0 (by decide) rfl
  omega

/-! ## What the buffers hold -/

/-- Point `k`, counted round. -/
def pt (k : ℕ) : Fin cfg0.N := ⟨k % 16, by rw [show cfg0.N = 16 from N_0]; omega⟩

/-- A point is the one with its number. -/
theorem pt_val (t : Fin cfg0.N) : pt t.val = t :=
  Fin.ext (Nat.mod_eq_of_lt (Nat.lt_of_lt_of_eq t.isLt N_0))

/-- The activations and the gain as the first point finds them, the weight and scale blocks of point `k`. -/
def X0 (c : Dev nD) : Vec F S1024x2048 .bf16 := iblk m c 0 (pt 0)
/-- The gain. -/
def G0 (c : Dev nD) : Vec F S1x2048 .f32 := iblk m c 1 (pt 0)
/-- The weight codes of column block `k`. -/
def W (c : Dev nD) (k : ℕ) : Vec F S2048x512 .fp8e4m3 := iblk m c 2 (pt k)
/-- The weight scales of column block `k`. -/
def Sc (c : Dev nD) (k : ℕ) : Vec F S1x512 .f32 := iblk m c 3 (pt k)

/-- The activations' codes and scales. -/
def XC (c : Dev nD) : Vec F S1024x2048 .fp8e4m3 := xcF (X0 m c) (G0 m c)
/-- The activations' scales. -/
def XS (c : Dev nD) : Vec F S1024x1 .f32 := xsF (X0 m c) (G0 m c)

/-- The product's column block of point `k`. -/
def yB (c : Dev nD) (k : ℕ) : Vec F S1x1024x512 .f32 := yF (XC m c) (W m c k) (XS m c) (Sc m c k)

/-- The running maximum after point `n`. -/
def amAt (c : Dev nD) : ℕ → Vec F S8x512 .f32
  | 0 => amF (XC m c) (W m c 0) (XS m c) (Sc m c 0) am0F
  | n + 1 => amF (XC m c) (W m c (n + 1)) (XS m c) (Sc m c (n + 1)) (amAt c n)

/-- The scratch after point `n`, from `y0` before the first. -/
def yAt (c : Dev nD) (y0 : Vec F S16x1024x512 .f32) : ℕ → Vec F S16x1024x512 .f32
  | 0 => yPut 0 y0 (yB m c 0)
  | n + 1 => yPut (n + 1) (yAt c y0 n) (yB m c (n + 1))

/-- After step `n` every column block up to `n` of the scratch product is the product's. -/
theorem yAt_plane (c : Dev nD) (y0 : Vec F S16x1024x512 .f32) (n : ℕ) (k : Fin 16) (hk : k.val ≤ n) :
    plane k (yAt m c y0 n) = yB m c k.val := by
  have hput : ∀ (y : Vec F S16x1024x512 .f32) (b : Vec F S1x1024x512 .f32), plane k (yPut k.val y b) = b := by
    intro y b
    funext z
    have hz : (z 0).val < 1 := (z 0).isLt
    show (if k.val = k.val then b (ix3 (0 : Fin 1) (z 1) (z 2)) else _) = b z
    rw [if_pos rfl]
    refine congrArg b (funext fun a => Fin.ext ?_)
    match a with
    | ⟨0, _⟩ => show 0 = (z 0).val; omega
    | ⟨1, _⟩ => rfl
    | ⟨2, _⟩ => rfl
  have hmiss : ∀ (n : ℕ) (y : Vec F S16x1024x512 .f32) (b : Vec F S1x1024x512 .f32), k.val ≠ n → plane k (yPut n y b) = plane k y := by
    intro n y b h
    funext z
    show (if k.val = n then _ else y (ix3 k (z 1) (z 2))) = _
    rw [if_neg h]; rfl
  induction n with
  | zero =>
    have e : k.val = 0 := by omega
    show plane k (yPut 0 y0 (yB m c 0)) = _
    rw [← e]; exact hput _ _
  | succ n ih =>
    show plane k (yPut (n + 1) (yAt m c y0 n) (yB m c (n + 1))) = _
    by_cases e : k.val = n + 1
    · rw [← e]; exact hput _ _
    · rw [hmiss _ _ _ e]; exact ih (by omega)

/-- The product's codes, block by block, from the running maximum at the end. -/
def YC (c : Dev nD) : Vec F S1024x8192 .fp8e4m3 := fun z =>
  codesY (yinvF (amAt m c 15)) (yB m c ((z 1).val / 512)) (ix2 (z 0) ⟨(z 1).val % 512, by omega⟩)

/-- After the last step the codes made from the scratch product are the product's codes. -/
theorem ycF_yAt (c : Dev nD) (y0 : Vec F S16x1024x512 .f32) : ycF (yAt m c y0 15) (amAt m c 15) = YC m c := by
  funext z
  show codesY _ (plane _ (yAt m c y0 15)) _ = _
  rw [yAt_plane m c y0 15 _ (Nat.le_of_lt_succ (Fin.isLt _))]; rfl

/-- The product's scale and its largest entry. -/
def YS (c : Dev nD) : Vec F S1x1 .f32 := fun _ => yscF (amAt m c 15)
/-- The product's largest magnitude. -/
def YM (c : Dev nD) : Vec F S1x1 .f32 := fun _ => amaxF (amAt m c 15)

/-- What is known between points: before the first nothing; afterwards the scratch and the running maximum. -/
def PhiS (c : Dev nD) : (n : ℕ) → n ≤ cfg0.N → sProp 𝕄
  | 0, _ => Pipeline.ΦA spec0 c
  | n + 1, _ => iprop(iprop((∃ y0, owns (c : Thread nD τ) scM0_0 fullShare (yAt m c y0 n)) ∗ owns (c : Thread nD τ) scM0_1 fullShare (amAt m c n)) ∗ (∃ r, prngReg c r))

/-- Before the first step the scratch holds anything. -/
theorem PhiS_zero (c : Dev nD) (n : ℕ) (h : n ≤ cfg0.N) (hz : n = 0) : PhiS m c n h = Pipeline.ΦA spec0 c := by
  subst hz; rfl

/-- After step `n` it holds what `yAt` and `amAt` say. -/
theorem PhiS_succ (c : Dev nD) (n : ℕ) (hn : n + 1 ≤ cfg0.N) :
    PhiS m c (n + 1) hn = iprop(iprop((∃ y0, owns (c : Thread nD τ) scM0_0 fullShare (yAt m c y0 n)) ∗ owns (c : Thread nD τ) scM0_1 fullShare (amAt m c n)) ∗ (∃ r, prngReg c r)) := rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => YC m c
    | ⟨5, _⟩ => YS m c
    | ⟨6, _⟩ => YM m c
    | ⟨7, _⟩ => XC m c
    | ⟨8, _⟩ => XS m c
  Φ t := PhiS m c t.val (Nat.le_of_lt_succ t.isLt)
  q _ := fullShare
  owed _ := 0

/-- The proof data's arrays are those at the region's entry. -/
theorem A_eq (c : Dev nD) (w : Fin cfg0.W) : (dats m 0 c).A w = V m c (Pipeline.arrRef spec0 w) := by
  dsimp only [dats]

/-- The proof data's scratch before a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What each buffer holds after a point. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = YC m c := by dsimp only [dats]
theorem after0_5 (c : Dev nD) (t : Fin cfg0.N) : (dats m 0 c).after 5 t = YS m c := by dsimp only [dats]
theorem after0_6 (c : Dev nD) (t : Fin cfg0.N) : (dats m 0 c).after 6 t = YM m c := by dsimp only [dats]
theorem after0_7 (c : Dev nD) (t : Fin cfg0.N) : (dats m 0 c).after 7 t = XC m c := by dsimp only [dats]
theorem after0_8 (c : Dev nD) (t : Fin cfg0.N) : (dats m 0 c).after 8 t = XS m c := by dsimp only [dats]
/-- What each input buffer holds before a point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- After the first point the buffer holds what that point left. -/
theorem before0_7 (c : Dev nD) (t : Fin cfg0.N) (h0 : ¬cond0_0 (grid0.coords t)) (d) : (dats m 0 c).before 7 t d = XC m c := by
  rw [Dat.before_out_traj _ 7 rfl (fun _ _ => rfl) (fun t _ _ _ => by rw [after0_7, after0_7]) t.val t rfl d,
    if_neg (by rw [notFresh0_7 t h0]; exact Bool.false_ne_true)]
  exact after0_7 m c _
/-- After the first point the buffer holds what that point left. -/
theorem before0_8 (c : Dev nD) (t : Fin cfg0.N) (h0 : ¬cond0_0 (grid0.coords t)) (d) : (dats m 0 c).before 8 t d = XS m c := by
  rw [Dat.before_out_traj _ 8 rfl (fun _ _ => rfl) (fun t _ _ _ => by rw [after0_8, after0_8]) t.val t rfl d,
    if_neg (by rw [notFresh0_8 t h0]; exact Bool.false_ne_true)]
  exact after0_8 m c _

end Cert.Kernel.Hand

end
-- ==== Proof.Kernel.Run.lean ====
module

public import proofs.«01_k».proof.Proof.Kernel.Data
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val = 0
  · have hc0 : cond0_0 (grid0.coords t) := (hcond0_0 t).mpr h0
    have hc1 : ¬cond0_1 (grid0.coords t) := fun h => by have := (hcond0_1 t).mp h; omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [Dat.leavesExact_idle (dats m 0 c) 4 t (idleAt0_4 t hc1) (noFlush0_4 t hc1)]
    rw [Dat.leavesExact_idle (dats m 0 c) 5 t (idleAt0_5 t hc1) (noFlush0_5 t hc1)]
    rw [Dat.leavesExact_idle (dats m 0 c) 6 t (idleAt0_6 t hc1) (noFlush0_6 t hc1)]
    rw [show (dats m 0 c).leavesExact 7 t = owns (c : Thread nD τ) (ms0_7 t) fullShare ((dats m 0 c).after 7 t) from by
      unfold Dat.leavesExact; rw [liveAt0_7 t hc0], after0_7]
    rw [show (dats m 0 c).leavesExact 8 t = owns (c : Thread nD τ) (ms0_8 t) fullShare ((dats m 0 c).after 8 t) from by
      unfold Dat.leavesExact; rw [liveAt0_8 t hc0], after0_8]
    rw [PhiS_castSucc m c t, PhiS_zero m c _ _ h0, PhiA0_eq]
    have e0 : iblk m c 0 t = X0 m c := by unfold X0; rw [← h0, pt_val]
    have e1 : iblk m c 1 t = G0 m c := by unfold G0; rw [← h0, pt_val]
    have eW : iblk m c 2 t = W m c 0 := by unfold W; rw [← h0, pt_val]
    have eS : iblk m c 3 t = Sc m c 0 := by unfold Sc; rw [← h0, pt_val]
    have ei : (grid0.coords t 0).val = 0 := (coords_val t).trans h0
    have ex : xcF (iblk m c 0 t) (iblk m c 1 t) = XC m c := by rw [e0, e1]; rfl
    have es : xsF (iblk m c 0 t) (iblk m c 1 t) = XS m c := by rw [e0, e1]; rfl
    iintro ⟨⟨⟨⟨%y0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have ey : yPut (grid0.coords t 0).val y0 (yF (xcF (iblk m c 0 t) (iblk m c 1 t)) (iblk m c 2 t) (xsF (iblk m c 0 t) (iblk m c 1 t)) (iblk m c 3 t)) = yAt m c y0 t.val := by rw [ei, ex, es, eW, eS, h0]; rfl
    have ea : amF (xcF (iblk m c 0 t) (iblk m c 1 t)) (iblk m c 2 t) (xsF (iblk m c 0 t) (iblk m c 1 t)) (iblk m c 3 t) am0F = amAt m c t.val := by rw [ex, es, eW, eS, h0]; rfl
    iapply (stepA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk m c 0 t) (iblk m c 1 t) (iblk m c 2 t) (iblk m c 3 t) _ _ _ y0 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    try rw [ey]
    try rw [ea]
    try rw [ex, es]
    isplitl [HS0 HS1 Hg]
    · isplitl [HS0 HS1]
      · isplitl [HS0]
        · iexists y0; iexact HS0
        iexact HS1
      iexact Hg
    isplitl [Ho]; · iexact Ho
    isplitl [H0]; · iexact H0
    isplitl [H1]; · iexact H1
    isplitl [H2]; · iexact H2
    isplitl [H3]; · iexact H3
    isplitl [H4]; · iexists d4; iexact H4
    isplitl [H5]; · iexists d5; iexact H5
    isplitl [H6]; · iexists d6; iexact H6
    isplitl [H7]; · iexact H7
    iexact H8
  have hc0 : ¬cond0_0 (grid0.coords t) := fun h => h0 ((hcond0_0 t).mp h)
  by_cases h1 : t.val = 15
  · have hc1 : cond0_1 (grid0.coords t) := (hcond0_1 t).mpr h1
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t hc1], after0_4]
    rw [show (dats m 0 c).leavesExact 5 t = owns (c : Thread nD τ) (ms0_5 t) fullShare ((dats m 0 c).after 5 t) from by
      unfold Dat.leavesExact; rw [liveAt0_5 t hc1], after0_5]
    rw [show (dats m 0 c).leavesExact 6 t = owns (c : Thread nD τ) (ms0_6 t) fullShare ((dats m 0 c).after 6 t) from by
      unfold Dat.leavesExact; rw [liveAt0_6 t hc1], after0_6]
    rw [show (dats m 0 c).leavesExact 7 t = owns (c : Thread nD τ) (ms0_7 t) fullShare ((dats m 0 c).after 7 t) from by
      unfold Dat.leavesExact; rw [idleAt0_7 t hc0, flush0_7_last t hc1], after0_7]
    rw [show (dats m 0 c).leavesExact 8 t = owns (c : Thread nD τ) (ms0_8 t) fullShare ((dats m 0 c).after 8 t) from by
      unfold Dat.leavesExact; rw [idleAt0_8 t hc0, flush0_8_last t hc1], after0_8]
    simp only [before0_7 m c t hc0, before0_8 m c t hc0]
    obtain ⟨n, hn⟩ : ∃ n, t.val = n + 1 := ⟨t.val - 1, by omega⟩
    rw [PhiS_castSucc m c t, show PhiS m c t.val (Nat.le_of_lt t.isLt) = PhiS m c (n + 1) (by omega) from by congr 1, PhiS_succ]
    have eW : iblk m c 2 t = W m c (n + 1) := by unfold W; rw [← hn, pt_val]
    have eS : iblk m c 3 t = Sc m c (n + 1) := by unfold Sc; rw [← hn, pt_val]
    have ei : (grid0.coords t 0).val = n + 1 := (coords_val t).trans hn
    iintro ⟨⟨⟨⟨%y0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have ey : yPut (grid0.coords t 0).val (yAt m c y0 n) (yF (XC m c) (iblk m c 2 t) (XS m c) (iblk m c 3 t)) = yAt m c y0 t.val := by rw [ei, eW, eS, hn]; rfl
    have ea : amF (XC m c) (iblk m c 2 t) (XS m c) (iblk m c 3 t) (amAt m c n) = amAt m c t.val := by rw [eW, eS, hn]; rfl
    iapply (stepC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk m c 0 t) (iblk m c 1 t) (iblk m c 2 t) (iblk m c 3 t) (XC m c) (XS m c) (yAt m c y0 n) (amAt m c n) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    rw [ey, ea]
    rw [show t.val = 15 from h1, ycF_yAt]
    isplitl [HS0 HS1 Hg]
    · isplitl [HS0 HS1]
      · isplitl [HS0]
        · iexists y0; iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc1 : ¬cond0_1 (grid0.coords t) := fun h => h1 ((hcond0_1 t).mp h)
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [Dat.leavesExact_idle (dats m 0 c) 4 t (idleAt0_4 t hc1) (noFlush0_4 t hc1)]
    rw [Dat.leavesExact_idle (dats m 0 c) 5 t (idleAt0_5 t hc1) (noFlush0_5 t hc1)]
    rw [Dat.leavesExact_idle (dats m 0 c) 6 t (idleAt0_6 t hc1) (noFlush0_6 t hc1)]
    rw [Dat.leavesExact_idle (dats m 0 c) 7 t (idleAt0_7 t hc0) (noFlush0_7 t hc1)]
    rw [Dat.leavesExact_idle (dats m 0 c) 8 t (idleAt0_8 t hc0) (noFlush0_8 t hc1)]
    simp only [before0_7 m c t hc0, before0_8 m c t hc0]
    obtain ⟨n, hn⟩ : ∃ n, t.val = n + 1 := ⟨t.val - 1, by omega⟩
    rw [PhiS_castSucc m c t, show PhiS m c t.val (Nat.le_of_lt t.isLt) = PhiS m c (n + 1) (by omega) from by congr 1, PhiS_succ]
    have eW : iblk m c 2 t = W m c (n + 1) := by unfold W; rw [← hn, pt_val]
    have eS : iblk m c 3 t = Sc m c (n + 1) := by unfold Sc; rw [← hn, pt_val]
    have ei : (grid0.coords t 0).val = n + 1 := (coords_val t).trans hn
    iintro ⟨⟨⟨⟨%y0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have ey : yPut (grid0.coords t 0).val (yAt m c y0 n) (yF (XC m c) (iblk m c 2 t) (XS m c) (iblk m c 3 t)) = yAt m c y0 t.val := by rw [ei, eW, eS, hn]; rfl
    have ea : amF (XC m c) (iblk m c 2 t) (XS m c) (iblk m c 3 t) (amAt m c n) = amAt m c t.val := by rw [eW, eS, hn]; rfl
    iapply (stepB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk m c 0 t) (iblk m c 1 t) (iblk m c 2 t) (iblk m c 3 t) _ _ _ (XC m c) (XS m c) (yAt m c y0 n) (amAt m c n) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    rw [ey, ea]
    isplitl [HS0 HS1 Hg]
    · isplitl [HS0 HS1]
      · isplitl [HS0]
        · iexists y0; iexact HS0
        iexact HS1
      iexact Hg
    isplitl [Ho]; · iexact Ho
    isplitl [H0]; · iexact H0
    isplitl [H1]; · iexact H1
    isplitl [H2]; · iexact H2
    isplitl [H3]; · iexact H3
    isplitl [H4]; · iexists d4; iexact H4
    isplitl [H5]; · iexists d5; iexact H5
    isplitl [H6]; · iexists d6; iexact H6
    isplitl [H7]; · iexists d7; iexact H7
    iexists d8; iexact H8

/-- The region's body at a point is the printed body. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The run starts with the scratch holding anything. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- It ends so. -/
theorem hout (c : Dev nD) : (dats m 0 c).Φ (Fin.last cfg0.N) ⊢ Pipeline.ΦA spec0 c := by
  rw [show (dats m 0 c).Φ (Fin.last cfg0.N) = PhiS m c (15 + 1) (by rw [show cfg0.N = 16 from N_0]) from rfl, PhiS_succ, PhiA0_eq]
  iintro ⟨⟨⟨%y0, HS0⟩, HS1⟩, Hg⟩
  isplitl [HS0 HS1]
  · isplitl [HS0]
    · iexists _; iexact HS0
    iexists _; iexact HS1
  iexact Hg

set_option backward.isDefEq.respectTransparency.types false in
/-- The launch: every array ends at what the proof data says, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The whole program runs, and its buffers end as the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel.Hand

end
-- ==== Proof.KernelIdeal.Conds.lean ====
module

public import proofs.«01_k».proof.Proof.Gen.KernelIdeal.Frame
public import proofs.«01_k».proof.Proof.Gen.KernelIdeal.Skeleton

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The condition of the prologue's branch, from the grid coordinates. -/
abbrev cond0_0 (i : grid0.Coords) : Prop := k0_cond1 i = 1#1
/-- It holds at the first point only. -/
theorem hcond0_0 : ∀ t : Fin cfg0.N, cond0_0 (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val = 0)

/-- The condition of the epilogue's branch. -/
abbrev cond0_1 (i : grid0.Coords) : Prop := k0_cond2 i = 1#1
/-- It holds at the last point only. -/
theorem hcond0_1 : ∀ t : Fin cfg0.N, cond0_1 (grid0.coords t) ↔ t.val = 15 :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ t.val = 15)

end Cert.KernelIdeal.Hand

end
-- ==== Proof.KernelIdeal.RunB.lean ====
module

public import proofs.«01_k».proof.Proof.KernelIdeal.Conds

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The stores the body leaves at a point that is neither first nor last (neither branch runs), as lists of pieces per buffer, with the proof
    that the body, started on whole buffers with the inputs at `x0 … x3`, ends with exactly those pieces written and
    every other buffer as it was. The pieces are found by running the body. -/
noncomputable def runB (c : Dev nD) (i : grid0.Coords) (arg1 : Memref sig .tc .vmem S1024x2048 .bf16) (harg1 : arg1.IsWhole) (arg2 : Memref sig .tc .vmem S1x2048 .f32) (harg2 : arg2.IsWhole) (arg3 : Memref sig .tc .vmem S2048x512 .fp8e4m3) (harg3 : arg3.IsWhole) (arg4 : Memref sig .tc .vmem S1x512 .f32) (harg4 : arg4.IsWhole) (arg5 : Memref sig .tc .vmem S1024x8192 .fp8e4m3) (harg5 : arg5.IsWhole) (arg6 : Memref sig .tc .smem S1x1 .f32) (harg6 : arg6.IsWhole) (arg7 : Memref sig .tc .smem S1x1 .f32) (harg7 : arg7.IsWhole) (arg8 : Memref sig .tc .vmem S1024x2048 .fp8e4m3) (harg8 : arg8.IsWhole) (arg9 : Memref sig .tc .vmem S1024x1 .f32) (harg9 : arg9.IsWhole) (arg10 : Memref sig .tc .vmem S16x1024x512 .f32) (harg10 : arg10.IsWhole) (arg11 : Memref sig .tc .vmem S8x512 .f32) (harg11 : arg11.IsWhole) (hc0 : ¬cond0_0 i) (hc1 : ¬cond0_1 i)
    (x0 : Vec F S1024x2048 .bf16) (x1 : Vec F S1x2048 .f32) (x2 : Vec F S2048x512 .fp8e4m3) (x3 : Vec F S1x512 .f32) (x7 : Vec F S1024x2048 .fp8e4m3) (x8 : Vec F S1024x1 .f32) (x10 : Vec F S8x512 .f32) :
    Σ' (L9 : List (View.Piece (Elt F) S16x1024x512 .f32)), { L10 : List (View.Piece (Elt F) S8x512 .f32) //
      ∀ (x4 : Vec F S1024x8192 .fp8e4m3) (x5 : Vec F S1x1 .f32) (x6 : Vec F S1x1 .f32) (x9 : Vec F S16x1024x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (arg10.view.loc (c : Thread nD τ) ↦[arg10.view.set]{fullShare} arg10.view.writes (Elt F) (harg10.unread x9) L9) ∗ (∃ f, arg11.view.loc (c : Thread nD τ) ↦[arg11.view.set]{fullShare} arg11.view.writes (Elt F) f L10)) -∗ K ⟨⟩))
          ⊢ wp frame (wpE (defs₀ (F := F)) Variants.none c none) E (cc0_rmsnorm_fp8_linear i arg1 harg1 arg2 harg2 arg3 harg3 arg4 harg4 arg5 harg5 arg6 harg6 arg7 harg7 arg8 harg8 arg9 harg9 arg10 harg10 arg11 harg11) K } := by
  refine ⟨?_, ?_, fun x4 x5 x6 x9 E K => ?run⟩
  case run =>
    simp only [cc0_rmsnorm_fp8_linear_eq_skeleton]; unfold cc0_rmsnorm_fp8_linear_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexact H9
    iexists _; iexact H10

end Cert.KernelIdeal.Hand

end
-- ==== Proof.KernelIdeal.RunA.lean ====
module

public import proofs.«01_k».proof.Proof.KernelIdeal.RunB

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The stores the body leaves at the first point (the prologue runs, the epilogue does not), as lists of pieces per buffer, with the proof
    that the body, started on whole buffers with the inputs at `x0 … x3`, ends with exactly those pieces written and
    every other buffer as it was. The pieces are found by running the body. -/
noncomputable def runA (c : Dev nD) (i : grid0.Coords) (arg1 : Memref sig .tc .vmem S1024x2048 .bf16) (harg1 : arg1.IsWhole) (arg2 : Memref sig .tc .vmem S1x2048 .f32) (harg2 : arg2.IsWhole) (arg3 : Memref sig .tc .vmem S2048x512 .fp8e4m3) (harg3 : arg3.IsWhole) (arg4 : Memref sig .tc .vmem S1x512 .f32) (harg4 : arg4.IsWhole) (arg5 : Memref sig .tc .vmem S1024x8192 .fp8e4m3) (harg5 : arg5.IsWhole) (arg6 : Memref sig .tc .smem S1x1 .f32) (harg6 : arg6.IsWhole) (arg7 : Memref sig .tc .smem S1x1 .f32) (harg7 : arg7.IsWhole) (arg8 : Memref sig .tc .vmem S1024x2048 .fp8e4m3) (harg8 : arg8.IsWhole) (arg9 : Memref sig .tc .vmem S1024x1 .f32) (harg9 : arg9.IsWhole) (arg10 : Memref sig .tc .vmem S16x1024x512 .f32) (harg10 : arg10.IsWhole) (arg11 : Memref sig .tc .vmem S8x512 .f32) (harg11 : arg11.IsWhole) (hc0 : cond0_0 i) (hc1 : ¬cond0_1 i)
    (x0 : Vec F S1024x2048 .bf16) (x1 : Vec F S1x2048 .f32) (x2 : Vec F S2048x512 .fp8e4m3) (x3 : Vec F S1x512 .f32) :
    Σ' (L7 : List (View.Piece (Elt F) S1024x2048 .fp8e4m3)), Σ' (L8 : List (View.Piece (Elt F) S1024x1 .f32)), Σ' (L9 : List (View.Piece (Elt F) S16x1024x512 .f32)), { L10 : List (View.Piece (Elt F) S8x512 .f32) //
      ∀ (x4 : Vec F S1024x8192 .fp8e4m3) (x5 : Vec F S1x1 .f32) (x6 : Vec F S1x1 .f32) (x9 : Vec F S16x1024x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare x9 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (arg10.view.loc (c : Thread nD τ) ↦[arg10.view.set]{fullShare} arg10.view.writes (Elt F) (harg10.unread x9) L9) ∗ (∃ f, arg11.view.loc (c : Thread nD τ) ↦[arg11.view.set]{fullShare} arg11.view.writes (Elt F) f L10)) -∗ K ⟨⟩))
          ⊢ wp frame (wpE (defs₀ (F := F)) Variants.none c none) E (cc0_rmsnorm_fp8_linear i arg1 harg1 arg2 harg2 arg3 harg3 arg4 harg4 arg5 harg5 arg6 harg6 arg7 harg7 arg8 harg8 arg9 harg9 arg10 harg10 arg11 harg11) K } := by
  refine ⟨?_, ?_, ?_, ?_, fun x4 x5 x6 x9 E K => ?run⟩
  case run =>
    simp only [cc0_rmsnorm_fp8_linear_eq_skeleton]; unfold cc0_rmsnorm_fp8_linear_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexact H9
    iexists _; iexact H10

end Cert.KernelIdeal.Hand

end
-- ==== Proof.KernelIdeal.Spec.lean ====
module

public import proofs.«01_k».proof.Proof.KernelIdeal.Conds
public import Idealize.ShloMosaic.Lib.ValueIdxCore
public import Idealize.ShloMosaic.Lib.WholeRead
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Idealize.ShloMosaic.ValueIdx

variable {F : FTy → Type} [FloatOps F]

local notation "𝕄" => MT nD τ sig Unit (Elt F) ℕ (UR sig nD τ) ℕ

/-! ## The kernel's arithmetic as functions of arrays

What the body computes, written over whole arrays and free of the buffers it moves them through. -/

/-- One step of the search for a float's exponent field: the candidate `e + k` is kept where the value reaches the
    power of two whose exponent field it is. -/
def stepF {s : Shape} (v : FVec F s .f32) (k : BitVec 32) (e : IVec s 32) : IVec s 32 :=
  select (cmpf .oge v (bitcastToFloat .f32 (shli (addi e (broadcast s k)) (broadcast s 23#32)))) (addi e (broadcast s k)) e

/-- The exponent field of a nonnegative value, searched by comparisons; 255 from `2^120` on. -/
def fieldF {s : Shape} (v : FVec F s .f32) : IVec s 32 :=
  select (cmpf .olt v (broadcast s (Scalar.ofBits .f32 0x7B800000#32)))
    (stepF v 1#32 (stepF v 2#32 (stepF v 4#32 (stepF v 8#32 (stepF v 16#32 (stepF v 32#32 (stepF v 64#32
      (stepF v 128#32 (broadcast s 0#32)))))))))
    (broadcast s 255#32)

/-- The field the scale is made of: 126 where the searched one is 0 or 255. -/
def biasF {s : Shape} (v : FVec F s .f32) : IVec s 32 :=
  select (ori (cmpi .eq (fieldF v) (broadcast s 0#32)) (cmpi .eq (fieldF v) (broadcast s 255#32))) (broadcast s 126#32)
    (fieldF v)

/-- The power-of-two scale of `v`: the next power of two. -/
def scaleF {s : Shape} (v : FVec F s .f32) : FVec F s .f32 :=
  bitcastToFloat .f32 (shli (addi (biasF v) (broadcast s 1#32)) (broadcast s 23#32))

/-- The inverse of the scale. -/
def invF {s : Shape} (v : FVec F s .f32) : FVec F s .f32 :=
  bitcastToFloat .f32 (shli (subi (broadcast s 253#32) (biasF v)) (broadcast s 23#32))

/-- Values clipped to the codes' range and rounded to codes. -/
def clipF {s : Shape} (v : FVec F s .f32) : FVec F s .fp8e4m3 :=
  truncf .fp8e4m3 (minimumf (broadcast s (Scalar.ofBits .f32 0x43E00000#32))
    (maximumf (broadcast s (Scalar.ofBits .f32 0xC3E00000#32)) v)) bitsLt_fp8e4m3_f32

/-- The codes of 128 rows. -/
def codesC (xr : Vec F S128x2048 .bf16) (g : Vec F S1x2048 .f32) : FVec F S128x2048 .fp8e4m3 :=
  clipF (mulf (k0_pay6 xr g) (broadcastTo S128x2048 (invF (k0_pay7 xr g)) broadcasts_S128x1_S128x2048))

/-- The scales of 128 rows. -/
def scaleC (xr : Vec F S128x2048 .bf16) (g : Vec F S1x2048 .f32) : FVec F S128x1 .f32 :=
  scaleF (k0_pay7 xr g)

/-- Rows `128 k … 128 k + 127`. -/
def rows (k : Fin 8) (x0 : Vec F S1024x2048 .bf16) : Vec F S128x2048 .bf16 := fun z =>
  x0 (ix2 ⟨128 * k.val + (z 0).val, by have h : (z 0).val < 128 := (z 0).isLt; omega⟩ (z 1))

/-- The codes of all rows, 128 at a time. -/
def xcF (x0 : Vec F S1024x2048 .bf16) (x1 : Vec F S1x2048 .f32) : Vec F S1024x2048 .fp8e4m3 := fun y =>
  codesC (rows ⟨(y 0).val / 128, by have h : (y 0).val < 1024 := (y 0).isLt; omega⟩ x0) x1
    (ix2 ⟨(y 0).val % 128, by omega⟩ (y 1))

/-- The scales of all rows, 128 at a time. -/
def xsF (x0 : Vec F S1024x2048 .bf16) (x1 : Vec F S1x2048 .f32) : Vec F S1024x1 .f32 := fun y =>
  scaleC (rows ⟨(y 0).val / 128, by have h : (y 0).val < 1024 := (y 0).isLt; omega⟩ x0) x1
    (ix2 ⟨(y 0).val % 128, by omega⟩ (y 1))

/-- An entry of the codes is an entry of its row block's codes. -/
theorem xcF_row (x0 : Vec F S1024x2048 .bf16) (x1 : Vec F S1x2048 .f32) (k : Fin 8) (z : S128x2048.Idx)
    (y : S1024x2048.Idx) (h0 : (y 0).val = 128 * k.val + (z 0).val) (h1 : (y 1).val = (z 1).val) :
    xcF x0 x1 y = codesC (rows k x0) x1 z := by
  have hz : (z 0).val < 128 := (z 0).isLt
  have e1 : (⟨(y 0).val / 128, by have h : (y 0).val < 1024 := (y 0).isLt; omega⟩ : Fin 8) = k := Fin.ext (by show (y 0).val / 128 = k.val; omega)
  have e2 : (ix2 ⟨(y 0).val % 128, by omega⟩ (y 1) : S128x2048.Idx) = z := by
    funext a; apply Fin.ext
    match a with
    | ⟨0, _⟩ => show (y 0).val % 128 = (z 0).val; omega
    | ⟨1, _⟩ => exact h1
  show codesC (rows _ x0) x1 _ = _
  rw [e1, e2]

/-- An entry of the scales is an entry of its row block's scales. -/
theorem xsF_row (x0 : Vec F S1024x2048 .bf16) (x1 : Vec F S1x2048 .f32) (k : Fin 8) (z : S128x1.Idx)
    (y : S1024x1.Idx) (h0 : (y 0).val = 128 * k.val + (z 0).val) (h1 : (y 1).val = (z 1).val) :
    xsF x0 x1 y = scaleC (rows k x0) x1 z := by
  have hz : (z 0).val < 128 := (z 0).isLt
  have e1 : (⟨(y 0).val / 128, by have h : (y 0).val < 1024 := (y 0).isLt; omega⟩ : Fin 8) = k := Fin.ext (by show (y 0).val / 128 = k.val; omega)
  have e2 : (ix2 ⟨(y 0).val % 128, by omega⟩ (y 1) : S128x1.Idx) = z := by
    funext a; apply Fin.ext
    match a with
    | ⟨0, _⟩ => show (y 0).val % 128 = (z 0).val; omega
    | ⟨1, _⟩ => exact h1
  show scaleC (rows _ x0) x1 _ = _
  rw [e1, e2]

/-- The eight-row running maximum after one more block: the block's own maxima over rows 8 apart, taken with the old. -/
def amF (xc : Vec F S1024x2048 .fp8e4m3) (w : Vec F S2048x512 .fp8e4m3) (xs : Vec F S1024x1 .f32) (ws : Vec F S1x512 .f32)
    (am : Vec F S8x512 .f32) : Vec F S8x512 .f32 := k0_pay4 xc w xs ws am

/-- One column block of the product, scaled. -/
def yF (xc : Vec F S1024x2048 .fp8e4m3) (w : Vec F S2048x512 .fp8e4m3) (xs : Vec F S1024x1 .f32) (ws : Vec F S1x512 .f32) :
    Vec F S1x1024x512 .f32 := k0_pay3 xc w xs ws

/-- The running maximum the first point starts from. -/
def am0F : Vec F S8x512 .f32 := k0_pay5

/-- The largest entry of the running maximum. -/
def amaxF (am : Vec F S8x512 .f32) : F .f32 := k0_pay83 am

/-- A vector's largest entry, as the epilogue takes it. -/
def topF (v : FVec F S8x128 .f32) : F .f32 := k0_pay90 v

/-- The scale of the product, from the running maximum. -/
def yscF (am : Vec F S8x512 .f32) : F .f32 := topF (scaleF (k0_pay84 am))

/-- The inverse of the product's scale. -/
def yinvF (am : Vec F S8x512 .f32) : F .f32 := topF (invF (k0_pay84 am))

/-- The codes of one column block. -/
def codesY (inv : F .f32) (yb : Vec F S1x1024x512 .f32) : FVec F S1024x512 .fp8e4m3 :=
  clipF (mulf (shapeCast S1024x512 yb shapeCasts_S1x1024x512_S1024x512) (broadcast S1024x512 inv))

/-- Plane `k` of the scratch. -/
def plane (k : Fin 16) (y : Vec F S16x1024x512 .f32) : Vec F S1x1024x512 .f32 := fun z => y (ix3 k (z 1) (z 2))

/-- The codes of the whole product, 512 columns at a time. -/
def ycF (y : Vec F S16x1024x512 .f32) (am : Vec F S8x512 .f32) : Vec F S1024x8192 .fp8e4m3 := fun z =>
  codesY (yinvF am) (plane ⟨(z 1).val / 512, by have h : (z 1).val < 8192 := (z 1).isLt; omega⟩ y)
    (ix2 (z 0) ⟨(z 1).val % 512, by omega⟩)

/-- An entry of the product's codes is an entry of its column block's codes. -/
theorem ycF_col (y : Vec F S16x1024x512 .f32) (am : Vec F S8x512 .f32) (k : Fin 16) (x : S1024x512.Idx)
    (z : S1024x8192.Idx) (h0 : (z 0).val = (x 0).val) (h1 : (z 1).val = 512 * k.val + (x 1).val) :
    ycF y am z = codesY (yinvF am) (plane k y) x := by
  have hz : (x 1).val < 512 := (x 1).isLt
  have e1 : (⟨(z 1).val / 512, by have h : (z 1).val < 8192 := (z 1).isLt; omega⟩ : Fin 16) = k := Fin.ext (by show (z 1).val / 512 = k.val; omega)
  have e2 : (ix2 (z 0) ⟨(z 1).val % 512, by omega⟩ : S1024x512.Idx) = x := by
    funext a; apply Fin.ext
    match a with
    | ⟨0, _⟩ => exact h0
    | ⟨1, _⟩ => show (z 1).val % 512 = (x 1).val; omega
  show codesY _ (plane _ y) _ = _
  rw [e1, e2]

/-- The scratch with plane `k` replaced by one block. -/
def yPut (k : ℕ) (y : Vec F S16x1024x512 .f32) (b : Vec F S1x1024x512 .f32) : Vec F S16x1024x512 .f32 := fun z =>
  if (z 0).val = k then b (ix3 (0 : Fin 1) (z 1) (z 2)) else y z

end Cert.KernelIdeal.Hand

end
-- ==== Proof.KernelIdeal.PiecesA.lean ====
module

public import proofs.«01_k».proof.Proof.KernelIdeal.RunA
public import proofs.«01_k».proof.Proof.KernelIdeal.Spec

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Idealize.ShloMosaic.ValueIdx

variable {F : FTy → Type} [FloatOps F]

local notation "𝕄" => MT nD τ sig Unit (Elt F) ℕ (UR sig nD τ) ℕ

/-- A load of 128 rows of the first operand. -/
theorem read_rows (a1 : Memref sig .tc .vmem S1024x2048 .bf16) (h1 : a1.IsWhole) (x0 : Vec F S1024x2048 .bf16) (k : Fin 8)
    (o : Fin 2 → ℕ) (inb : ∀ a, o a + S128x2048.size a ≤ S1024x2048.size a) (ho : o = ![128 * k.val, 0]) :
    View.readAt (Elt F) a1.view (Rect.unit (s := S1024x2048) o S128x2048.size inb).toLoadRect (h1.unread x0) = rows k x0 := by
  subst ho
  funext z
  rw [h1.readAt_unread]
  refine congrArg x0 (funext fun a => Fin.ext ?_)
  match a with
  | ⟨0, _⟩ => show 128 * k.val + 1 * (z 0).val = 128 * k.val + (z 0).val; omega
  | ⟨1, _⟩ => show 0 + 1 * (z 1).val = (z 1).val; omega

/-- A load of the whole gain row. -/
theorem read_gain (a2 : Memref sig .tc .vmem S1x2048 .f32) (h2 : a2.IsWhole) (x1 : Vec F S1x2048 .f32) :
    View.readAt (Elt F) a2.view (Rect.unit (s := S1x2048) ![0, 0] S1x2048.size inb_S1x2048_S1x2048_0_0).toLoadRect (h2.unread x1) = x1 := by
  rw [View.readAt_full, h2.read_unread]

/-- The pieces the prologue stores, chunk by chunk. -/
theorem H7_8_raw (c : Dev nD) (a1 : Memref sig .tc .vmem S1024x2048 .bf16) (h1 : a1.IsWhole) (a2 : Memref sig .tc .vmem S1x2048 .f32) (h2 : a2.IsWhole)
    (x0 : Vec F S1024x2048 .bf16) (x1 : Vec F S1x2048 .f32) :
    runA.sl.H7_8 (F := F) c a1 h1 a2 h2 x0 x1 = [⟨Rect.unit ![896, 0] S128x2048.size inb_S1024x2048_S128x2048_896_0, codesC (View.readAt (Elt F) a1.view (Rect.unit (s := S1024x2048) ![896, 0] S128x2048.size inb_S1024x2048_S128x2048_896_0).toLoadRect (h1.unread x0)) (View.readAt (Elt F) a2.view (Rect.unit (s := S1x2048) ![0, 0] S1x2048.size inb_S1x2048_S1x2048_0_0).toLoadRect (h2.unread x1))⟩, ⟨Rect.unit ![768, 0] S128x2048.size inb_S1024x2048_S128x2048_768_0, codesC (View.readAt (Elt F) a1.view (Rect.unit (s := S1024x2048) ![768, 0] S128x2048.size inb_S1024x2048_S128x2048_768_0).toLoadRect (h1.unread x0)) (View.readAt (Elt F) a2.view (Rect.unit (s := S1x2048) ![0, 0] S1x2048.size inb_S1x2048_S1x2048_0_0).toLoadRect (h2.unread x1))⟩, ⟨Rect.unit ![640, 0] S128x2048.size inb_S1024x2048_S128x2048_640_0, codesC (View.readAt (Elt F) a1.view (Rect.unit (s := S1024x2048) ![640, 0] S128x2048.size inb_S1024x2048_S128x2048_640_0).toLoadRect (h1.unread x0)) (View.readAt (Elt F) a2.view (Rect.unit (s := S1x2048) ![0, 0] S1x2048.size inb_S1x2048_S1x2048_0_0).toLoadRect (h2.unread x1))⟩, ⟨Rect.unit ![512, 0] S128x2048.size inb_S1024x2048_S128x2048_512_0, codesC (View.readAt (Elt F) a1.view (Rect.unit (s := S1024x2048) ![512, 0] S128x2048.size inb_S1024x2048_S128x2048_512_0).toLoadRect (h1.unread x0)) (View.readAt (Elt F) a2.view (Rect.unit (s := S1x2048) ![0, 0] S1x2048.size inb_S1x2048_S1x2048_0_0).toLoadRect (h2.unread x1))⟩, ⟨Rect.unit ![384, 0] S128x2048.size inb_S1024x2048_S128x2048_384_0, codesC (View.readAt (Elt F) a1.view (Rect.unit (s := S1024x2048) ![384, 0] S128x2048.size inb_S1024x2048_S128x2048_384_0).toLoadRect (h1.unread x0)) (View.readAt (Elt F) a2.view (Rect.unit (s := S1x2048) ![0, 0] S1x2048.size inb_S1x2048_S1x2048_0_0).toLoadRect (h2.unread x1))⟩, ⟨Rect.unit ![256, 0] S128x2048.size inb_S1024x2048_S128x2048_256_0, codesC (View.readAt (Elt F) a1.view (Rect.unit (s := S1024x2048) ![256, 0] S128x2048.size inb_S1024x2048_S128x2048_256_0).toLoadRect (h1.unread x0)) (View.readAt (Elt F) a2.view (Rect.unit (s := S1x2048) ![0, 0] S1x2048.size inb_S1x2048_S1x2048_0_0).toLoadRect (h2.unread x1))⟩, ⟨Rect.unit ![128, 0] S128x2048.size inb_S1024x2048_S128x2048_128_0, codesC (View.readAt (Elt F) a1.view (Rect.unit (s := S1024x2048) ![128, 0] S128x2048.size inb_S1024x2048_S128x2048_128_0).toLoadRect (h1.unread x0)) (View.readAt (Elt F) a2.view (Rect.unit (s := S1x2048) ![0, 0] S1x2048.size inb_S1x2048_S1x2048_0_0).toLoadRect (h2.unread x1))⟩, ⟨Rect.unit ![0, 0] S128x2048.size inb_S1024x2048_S128x2048_0_0, codesC (View.readAt (Elt F) a1.view (Rect.unit (s := S1024x2048) ![0, 0] S128x2048.size inb_S1024x2048_S128x2048_0_0).toLoadRect (h1.unread x0)) (View.readAt (Elt F) a2.view (Rect.unit (s := S1x2048) ![0, 0] S1x2048.size inb_S1x2048_S1x2048_0_0).toLoadRect (h2.unread x1))⟩] := rfl

/-- The eight stores of codes at the first point are the codes of the eight row blocks. -/
theorem H7_8_eq (c : Dev nD) (a1 : Memref sig .tc .vmem S1024x2048 .bf16) (h1 : a1.IsWhole) (a2 : Memref sig .tc .vmem S1x2048 .f32) (h2 : a2.IsWhole)
    (x0 : Vec F S1024x2048 .bf16) (x1 : Vec F S1x2048 .f32) :
    runA.sl.H7_8 (F := F) c a1 h1 a2 h2 x0 x1 = [⟨Rect.unit ![896, 0] S128x2048.size inb_S1024x2048_S128x2048_896_0, codesC (rows 7 x0) x1⟩, ⟨Rect.unit ![768, 0] S128x2048.size inb_S1024x2048_S128x2048_768_0, codesC (rows 6 x0) x1⟩, ⟨Rect.unit ![640, 0] S128x2048.size inb_S1024x2048_S128x2048_640_0, codesC (rows 5 x0) x1⟩, ⟨Rect.unit ![512, 0] S128x2048.size inb_S1024x2048_S128x2048_512_0, codesC (rows 4 x0) x1⟩, ⟨Rect.unit ![384, 0] S128x2048.size inb_S1024x2048_S128x2048_384_0, codesC (rows 3 x0) x1⟩, ⟨Rect.unit ![256, 0] S128x2048.size inb_S1024x2048_S128x2048_256_0, codesC (rows 2 x0) x1⟩, ⟨Rect.unit ![128, 0] S128x2048.size inb_S1024x2048_S128x2048_128_0, codesC (rows 1 x0) x1⟩, ⟨Rect.unit ![0, 0] S128x2048.size inb_S1024x2048_S128x2048_0_0, codesC (rows 0 x0) x1⟩] := by
  rw [H7_8_raw]
  rw [read_gain a2 h2 x1]
  simp only [read_rows a1 h1 x0 0 ![0, 0] _ rfl, read_rows a1 h1 x0 1 ![128, 0] _ rfl, read_rows a1 h1 x0 2 ![256, 0] _ rfl, read_rows a1 h1 x0 3 ![384, 0] _ rfl, read_rows a1 h1 x0 4 ![512, 0] _ rfl, read_rows a1 h1 x0 5 ![640, 0] _ rfl, read_rows a1 h1 x0 6 ![768, 0] _ rfl, read_rows a1 h1 x0 7 ![896, 0] _ rfl]

/-- The pieces the prologue stores, chunk by chunk. -/
theorem H8_8_raw (c : Dev nD) (a1 : Memref sig .tc .vmem S1024x2048 .bf16) (h1 : a1.IsWhole) (a2 : Memref sig .tc .vmem S1x2048 .f32) (h2 : a2.IsWhole)
    (x0 : Vec F S1024x2048 .bf16) (x1 : Vec F S1x2048 .f32) :
    runA.sl.H8_8 (F := F) c a1 h1 a2 h2 x0 x1 = [⟨Rect.unit ![896, 0] S128x1.size inb_S1024x1_S128x1_896_0, scaleC (View.readAt (Elt F) a1.view (Rect.unit (s := S1024x2048) ![896, 0] S128x2048.size inb_S1024x2048_S128x2048_896_0).toLoadRect (h1.unread x0)) (View.readAt (Elt F) a2.view (Rect.unit (s := S1x2048) ![0, 0] S1x2048.size inb_S1x2048_S1x2048_0_0).toLoadRect (h2.unread x1))⟩, ⟨Rect.unit ![768, 0] S128x1.size inb_S1024x1_S128x1_768_0, scaleC (View.readAt (Elt F) a1.view (Rect.unit (s := S1024x2048) ![768, 0] S128x2048.size inb_S1024x2048_S128x2048_768_0).toLoadRect (h1.unread x0)) (View.readAt (Elt F) a2.view (Rect.unit (s := S1x2048) ![0, 0] S1x2048.size inb_S1x2048_S1x2048_0_0).toLoadRect (h2.unread x1))⟩, ⟨Rect.unit ![640, 0] S128x1.size inb_S1024x1_S128x1_640_0, scaleC (View.readAt (Elt F) a1.view (Rect.unit (s := S1024x2048) ![640, 0] S128x2048.size inb_S1024x2048_S128x2048_640_0).toLoadRect (h1.unread x0)) (View.readAt (Elt F) a2.view (Rect.unit (s := S1x2048) ![0, 0] S1x2048.size inb_S1x2048_S1x2048_0_0).toLoadRect (h2.unread x1))⟩, ⟨Rect.unit ![512, 0] S128x1.size inb_S1024x1_S128x1_512_0, scaleC (View.readAt (Elt F) a1.view (Rect.unit (s := S1024x2048) ![512, 0] S128x2048.size inb_S1024x2048_S128x2048_512_0).toLoadRect (h1.unread x0)) (View.readAt (Elt F) a2.view (Rect.unit (s := S1x2048) ![0, 0] S1x2048.size inb_S1x2048_S1x2048_0_0).toLoadRect (h2.unread x1))⟩, ⟨Rect.unit ![384, 0] S128x1.size inb_S1024x1_S128x1_384_0, scaleC (View.readAt (Elt F) a1.view (Rect.unit (s := S1024x2048) ![384, 0] S128x2048.size inb_S1024x2048_S128x2048_384_0).toLoadRect (h1.unread x0)) (View.readAt (Elt F) a2.view (Rect.unit (s := S1x2048) ![0, 0] S1x2048.size inb_S1x2048_S1x2048_0_0).toLoadRect (h2.unread x1))⟩, ⟨Rect.unit ![256, 0] S128x1.size inb_S1024x1_S128x1_256_0, scaleC (View.readAt (Elt F) a1.view (Rect.unit (s := S1024x2048) ![256, 0] S128x2048.size inb_S1024x2048_S128x2048_256_0).toLoadRect (h1.unread x0)) (View.readAt (Elt F) a2.view (Rect.unit (s := S1x2048) ![0, 0] S1x2048.size inb_S1x2048_S1x2048_0_0).toLoadRect (h2.unread x1))⟩, ⟨Rect.unit ![128, 0] S128x1.size inb_S1024x1_S128x1_128_0, scaleC (View.readAt (Elt F) a1.view (Rect.unit (s := S1024x2048) ![128, 0] S128x2048.size inb_S1024x2048_S128x2048_128_0).toLoadRect (h1.unread x0)) (View.readAt (Elt F) a2.view (Rect.unit (s := S1x2048) ![0, 0] S1x2048.size inb_S1x2048_S1x2048_0_0).toLoadRect (h2.unread x1))⟩, ⟨Rect.unit ![0, 0] S128x1.size inb_S1024x1_S128x1_0_0, scaleC (View.readAt (Elt F) a1.view (Rect.unit (s := S1024x2048) ![0, 0] S128x2048.size inb_S1024x2048_S128x2048_0_0).toLoadRect (h1.unread x0)) (View.readAt (Elt F) a2.view (Rect.unit (s := S1x2048) ![0, 0] S1x2048.size inb_S1x2048_S1x2048_0_0).toLoadRect (h2.unread x1))⟩] := rfl

/-- The eight stores of scales, likewise. -/
theorem H8_8_eq (c : Dev nD) (a1 : Memref sig .tc .vmem S1024x2048 .bf16) (h1 : a1.IsWhole) (a2 : Memref sig .tc .vmem S1x2048 .f32) (h2 : a2.IsWhole)
    (x0 : Vec F S1024x2048 .bf16) (x1 : Vec F S1x2048 .f32) :
    runA.sl.H8_8 (F := F) c a1 h1 a2 h2 x0 x1 = [⟨Rect.unit ![896, 0] S128x1.size inb_S1024x1_S128x1_896_0, scaleC (rows 7 x0) x1⟩, ⟨Rect.unit ![768, 0] S128x1.size inb_S1024x1_S128x1_768_0, scaleC (rows 6 x0) x1⟩, ⟨Rect.unit ![640, 0] S128x1.size inb_S1024x1_S128x1_640_0, scaleC (rows 5 x0) x1⟩, ⟨Rect.unit ![512, 0] S128x1.size inb_S1024x1_S128x1_512_0, scaleC (rows 4 x0) x1⟩, ⟨Rect.unit ![384, 0] S128x1.size inb_S1024x1_S128x1_384_0, scaleC (rows 3 x0) x1⟩, ⟨Rect.unit ![256, 0] S128x1.size inb_S1024x1_S128x1_256_0, scaleC (rows 2 x0) x1⟩, ⟨Rect.unit ![128, 0] S128x1.size inb_S1024x1_S128x1_128_0, scaleC (rows 1 x0) x1⟩, ⟨Rect.unit ![0, 0] S128x1.size inb_S1024x1_S128x1_0_0, scaleC (rows 0 x0) x1⟩] := by
  rw [H8_8_raw]
  rw [read_gain a2 h2 x1]
  simp only [read_rows a1 h1 x0 0 ![0, 0] _ rfl, read_rows a1 h1 x0 1 ![128, 0] _ rfl, read_rows a1 h1 x0 2 ![256, 0] _ rfl, read_rows a1 h1 x0 3 ![384, 0] _ rfl, read_rows a1 h1 x0 4 ![512, 0] _ rfl, read_rows a1 h1 x0 5 ![640, 0] _ rfl, read_rows a1 h1 x0 6 ![768, 0] _ rfl, read_rows a1 h1 x0 7 ![896, 0] _ rfl]

/-- What the prologue's pieces leave, whatever was there before. -/
theorem H7_8_read (c : Dev nD) (a1 : Memref sig .tc .vmem S1024x2048 .bf16) (h1 : a1.IsWhole) (a2 : Memref sig .tc .vmem S1x2048 .f32) (h2 : a2.IsWhole)
    (x0 : Vec F S1024x2048 .bf16) (x1 : Vec F S1x2048 .f32)
    (a : Memref sig .tc .vmem S1024x2048 .fp8e4m3) (f : a.view.ty.Contents (Elt F)) :
    a.view.read (Elt F) (a.view.writes (Elt F) f (runA.sl.H7_8 (F := F) c a1 h1 a2 h2 x0 x1)) = xcF x0 x1 := by
  rw [H7_8_eq]
  funext y
  refine View.read_writes_apply_of_pieces a.view f (xcF x0 x1) _ ?_ y ?_
  · intro p hp
    simp only [List.mem_cons, List.not_mem_nil, or_false] at hp
    rcases hp with rfl | rfl | rfl | rfl | rfl | rfl | rfl | rfl
    · intro z; exact (xcF_row x0 x1 7 z _ (by show 896 + 1 * (z 0).val = 128 * 7 + (z 0).val; omega) (by show 0 + 1 * (z 1).val = (z 1).val; omega)).symm
    · intro z; exact (xcF_row x0 x1 6 z _ (by show 768 + 1 * (z 0).val = 128 * 6 + (z 0).val; omega) (by show 0 + 1 * (z 1).val = (z 1).val; omega)).symm
    · intro z; exact (xcF_row x0 x1 5 z _ (by show 640 + 1 * (z 0).val = 128 * 5 + (z 0).val; omega) (by show 0 + 1 * (z 1).val = (z 1).val; omega)).symm
    · intro z; exact (xcF_row x0 x1 4 z _ (by show 512 + 1 * (z 0).val = 128 * 4 + (z 0).val; omega) (by show 0 + 1 * (z 1).val = (z 1).val; omega)).symm
    · intro z; exact (xcF_row x0 x1 3 z _ (by show 384 + 1 * (z 0).val = 128 * 3 + (z 0).val; omega) (by show 0 + 1 * (z 1).val = (z 1).val; omega)).symm
    · intro z; exact (xcF_row x0 x1 2 z _ (by show 256 + 1 * (z 0).val = 128 * 2 + (z 0).val; omega) (by show 0 + 1 * (z 1).val = (z 1).val; omega)).symm
    · intro z; exact (xcF_row x0 x1 1 z _ (by show 128 + 1 * (z 0).val = 128 * 1 + (z 0).val; omega) (by show 0 + 1 * (z 1).val = (z 1).val; omega)).symm
    · intro z; exact (xcF_row x0 x1 0 z _ (by show 0 + 1 * (z 0).val = 128 * 0 + (z 0).val; omega) (by show 0 + 1 * (z 1).val = (z 1).val; omega)).symm
  · have hy0 : (y 0).val < 1024 := (y 0).isLt
    have hy1 : (y 1).val < 2048 := (y 1).isLt
    have key : ∀ (k : ℕ) (inb : ∀ a, (![128 * k, 0] : Fin 2 → ℕ) a + S128x2048.size a ≤ S1024x2048.size a), (y 0).val / 128 = k → y ∈ (Rect.unit (s := S1024x2048) ![128 * k, 0] S128x2048.size inb).set := by
      intro k inb hk
      rw [Rect.mem_set_unit]
      intro a
      match a with
      | ⟨0, _⟩ => exact ⟨(by show 128 * k ≤ (y 0).val; omega), (by show (y 0).val < 128 * k + 128; omega)⟩
      | ⟨1, _⟩ => exact ⟨Nat.zero_le _, (by show (y 1).val < 0 + 2048; omega)⟩
    have hk : (y 0).val / 128 < 8 := by omega
    rcases (show (y 0).val / 128 = 7 ∨ (y 0).val / 128 = 6 ∨ (y 0).val / 128 = 5 ∨ (y 0).val / 128 = 4 ∨ (y 0).val / 128 = 3 ∨ (y 0).val / 128 = 2 ∨ (y 0).val / 128 = 1 ∨ (y 0).val / 128 = 0 by omega) with h | h | h | h | h | h | h | h
    · exact ⟨_, (List.mem_cons_self), key 7 inb_S1024x2048_S128x2048_896_0 h⟩
    · exact ⟨_, (List.mem_cons_of_mem _ (List.mem_cons_self)), key 6 inb_S1024x2048_S128x2048_768_0 h⟩
    · exact ⟨_, (List.mem_cons_of_mem _ (List.mem_cons_of_mem _ (List.mem_cons_self))), key 5 inb_S1024x2048_S128x2048_640_0 h⟩
    · exact ⟨_, (List.mem_cons_of_mem _ (List.mem_cons_of_mem _ (List.mem_cons_of_mem _ (List.mem_cons_self)))), key 4 inb_S1024x2048_S128x2048_512_0 h⟩
    · exact ⟨_, (List.mem_cons_of_mem _ (List.mem_cons_of_mem _ (List.mem_cons_of_mem _ (List.mem_cons_of_mem _ (List.mem_cons_self))))), key 3 inb_S1024x2048_S128x2048_384_0 h⟩
    · exact ⟨_, (List.mem_cons_of_mem _ (List.mem_cons_of_mem _ (List.mem_cons_of_mem _ (List.mem_cons_of_mem _ (List.mem_cons_of_mem _ (List.mem_cons_self)))))), key 2 inb_S1024x2048_S128x2048_256_0 h⟩
    · exact ⟨_, (List.mem_cons_of_mem _ (List.mem_cons_of_mem _ (List.mem_cons_of_mem _ (List.mem_cons_of_mem _ (List.mem_cons_of_mem _ (List.mem_cons_of_mem _ (List.mem_cons_self))))))), key 1 inb_S1024x2048_S128x2048_128_0 h⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_self)))))))), key 0 inb_S1024x2048_S128x2048_0_0 h⟩

/-- What the prologue's pieces leave, whatever was there before. -/
theorem H8_8_read (c : Dev nD) (a1 : Memref sig .tc .vmem S1024x2048 .bf16) (h1 : a1.IsWhole) (a2 : Memref sig .tc .vmem S1x2048 .f32) (h2 : a2.IsWhole)
    (x0 : Vec F S1024x2048 .bf16) (x1 : Vec F S1x2048 .f32)
    (a : Memref sig .tc .vmem S1024x1 .f32) (f : a.view.ty.Contents (Elt F)) :
    a.view.read (Elt F) (a.view.writes (Elt F) f (runA.sl.H8_8 (F := F) c a1 h1 a2 h2 x0 x1)) = xsF x0 x1 := by
  rw [H8_8_eq]
  funext y
  refine View.read_writes_apply_of_pieces a.view f (xsF x0 x1) _ ?_ y ?_
  · intro p hp
    simp only [List.mem_cons, List.not_mem_nil, or_false] at hp
    rcases hp with rfl | rfl | rfl | rfl | rfl | rfl | rfl | rfl
    · intro z; exact (xsF_row x0 x1 7 z _ (by show 896 + 1 * (z 0).val = 128 * 7 + (z 0).val; omega) (by show 0 + 1 * (z 1).val = (z 1).val; omega)).symm
    · intro z; exact (xsF_row x0 x1 6 z _ (by show 768 + 1 * (z 0).val = 128 * 6 + (z 0).val; omega) (by show 0 + 1 * (z 1).val = (z 1).val; omega)).symm
    · intro z; exact (xsF_row x0 x1 5 z _ (by show 640 + 1 * (z 0).val = 128 * 5 + (z 0).val; omega) (by show 0 + 1 * (z 1).val = (z 1).val; omega)).symm
    · intro z; exact (xsF_row x0 x1 4 z _ (by show 512 + 1 * (z 0).val = 128 * 4 + (z 0).val; omega) (by show 0 + 1 * (z 1).val = (z 1).val; omega)).symm
    · intro z; exact (xsF_row x0 x1 3 z _ (by show 384 + 1 * (z 0).val = 128 * 3 + (z 0).val; omega) (by show 0 + 1 * (z 1).val = (z 1).val; omega)).symm
    · intro z; exact (xsF_row x0 x1 2 z _ (by show 256 + 1 * (z 0).val = 128 * 2 + (z 0).val; omega) (by show 0 + 1 * (z 1).val = (z 1).val; omega)).symm
    · intro z; exact (xsF_row x0 x1 1 z _ (by show 128 + 1 * (z 0).val = 128 * 1 + (z 0).val; omega) (by show 0 + 1 * (z 1).val = (z 1).val; omega)).symm
    · intro z; exact (xsF_row x0 x1 0 z _ (by show 0 + 1 * (z 0).val = 128 * 0 + (z 0).val; omega) (by show 0 + 1 * (z 1).val = (z 1).val; omega)).symm
  · have hy0 : (y 0).val < 1024 := (y 0).isLt
    have hy1 : (y 1).val < 1 := (y 1).isLt
    have key : ∀ (k : ℕ) (inb : ∀ a, (![128 * k, 0] : Fin 2 → ℕ) a + S128x1.size a ≤ S1024x1.size a), (y 0).val / 128 = k → y ∈ (Rect.unit (s := S1024x1) ![128 * k, 0] S128x1.size inb).set := by
      intro k inb hk
      rw [Rect.mem_set_unit]
      intro a
      match a with
      | ⟨0, _⟩ => exact ⟨(by show 128 * k ≤ (y 0).val; omega), (by show (y 0).val < 128 * k + 128; omega)⟩
      | ⟨1, _⟩ => exact ⟨Nat.zero_le _, (by show (y 1).val < 0 + 1; omega)⟩
    have hk : (y 0).val / 128 < 8 := by omega
    rcases (show (y 0).val / 128 = 7 ∨ (y 0).val / 128 = 6 ∨ (y 0).val / 128 = 5 ∨ (y 0).val / 128 = 4 ∨ (y 0).val / 128 = 3 ∨ (y 0).val / 128 = 2 ∨ (y 0).val / 128 = 1 ∨ (y 0).val / 128 = 0 by omega) with h | h | h | h | h | h | h | h
    · exact ⟨_, (List.mem_cons_self), key 7 inb_S1024x1_S128x1_896_0 h⟩
    · exact ⟨_, (List.mem_cons_of_mem _ (List.mem_cons_self)), key 6 inb_S1024x1_S128x1_768_0 h⟩
    · exact ⟨_, (List.mem_cons_of_mem _ (List.mem_cons_of_mem _ (List.mem_cons_self))), key 5 inb_S1024x1_S128x1_640_0 h⟩
    · exact ⟨_, (List.mem_cons_of_mem _ (List.mem_cons_of_mem _ (List.mem_cons_of_mem _ (List.mem_cons_self)))), key 4 inb_S1024x1_S128x1_512_0 h⟩
    · exact ⟨_, (List.mem_cons_of_mem _ (List.mem_cons_of_mem _ (List.mem_cons_of_mem _ (List.mem_cons_of_mem _ (List.mem_cons_self))))), key 3 inb_S1024x1_S128x1_384_0 h⟩
    · exact ⟨_, (List.mem_cons_of_mem _ (List.mem_cons_of_mem _ (List.mem_cons_of_mem _ (List.mem_cons_of_mem _ (List.mem_cons_of_mem _ (List.mem_cons_self)))))), key 2 inb_S1024x1_S128x1_256_0 h⟩
    · exact ⟨_, (List.mem_cons_of_mem _ (List.mem_cons_of_mem _ (List.mem_cons_of_mem _ (List.mem_cons_of_mem _ (List.mem_cons_of_mem _ (List.mem_cons_of_mem _ (List.mem_cons_self))))))), key 1 inb_S1024x1_S128x1_128_0 h⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_self)))))))), key 0 inb_S1024x1_S128x1_0_0 h⟩

end Cert.KernelIdeal.Hand

end
-- ==== Proof.KernelIdeal.Steps.lean ====
module

public import proofs.«01_k».proof.Proof.KernelIdeal.PiecesA

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Idealize.ShloMosaic.ValueIdx

variable {F : FTy → Type} [FloatOps F]

local notation "𝕄" => MT nD τ sig Unit (Elt F) ℕ (UR sig nD τ) ℕ

/-- A store of one plane of the scratch. -/
theorem read_yPut (a : Memref sig .tc .vmem S16x1024x512 .f32) (h : a.IsWhole) (i : grid0.Coords) (x : Vec F S16x1024x512 .f32)
    (b : Vec F S1x1024x512 .f32) :
    a.view.read (Elt F) (a.view.writes (Elt F) (h.unread x) [⟨Rect.unit (s := S16x1024x512) (k0_off1 i) S1x1024x512.size (k0_off1_inb i), b⟩])
      = yPut (i 0).val x b := by
  funext y
  rw [View.read_writes_cons_unit a.view _ (k0_off1_inb i) b [] y (k0_off1_eq i), View.writes_nil, h.read_unread]
  have h1 : (y 1).val < 1024 := (y 1).isLt
  have h2 : (y 2).val < 512 := (y 2).isLt
  unfold yPut
  by_cases hy : (y 0).val = (i 0).val
  · have hall : ∀ a, (![(i 0).val, 0, 0] : Fin 3 → ℕ) a ≤ (y a).val ∧ (y a).val < (![(i 0).val, 0, 0] : Fin 3 → ℕ) a + S1x1024x512.size a := by
      intro a
      match a with
      | ⟨0, _⟩ => exact ⟨(by show (i 0).val ≤ (y 0).val; omega), (by show (y 0).val < (i 0).val + 1; omega)⟩
      | ⟨1, _⟩ => exact ⟨Nat.zero_le _, (by show (y 1).val < 0 + 1024; omega)⟩
      | ⟨2, _⟩ => exact ⟨Nat.zero_le _, (by show (y 2).val < 0 + 512; omega)⟩
    rw [dif_pos hall, if_pos hy]
    refine congrArg b (funext fun a => Fin.ext ?_)
    match a with
    | ⟨0, _⟩ => show (y 0).val - (i 0).val = 0; omega
    | ⟨1, _⟩ => rfl
    | ⟨2, _⟩ => rfl
  · rw [dif_neg (fun hall => hy (by
      have := hall 0
      have e1 : (i 0).val ≤ (y 0).val := this.1
      have e2 : (y 0).val < (i 0).val + 1 := this.2
      omega)), if_neg hy]

/-- A load of the whole of a whole buffer. -/
theorem readAll {sp : Space} {s : Shape} {e : EltTy} (a : Memref sig .tc sp s e) (h : a.IsWhole) (x : Vec F s e) (off : Fin s.rank → ℕ)
    (inb : ∀ a, off a + s.size a ≤ s.size a) :
    View.readAt (Elt F) a.view (Rect.unit (s := s) off s.size inb).toLoadRect (h.unread x) = x := by
  rw [View.readAt_full, h.read_unread]

/-- What the first point reads back of the codes is the activations' codes. -/
theorem v3_eq (c : Dev nD) (a1 : Memref sig .tc .vmem S1024x2048 .bf16) (h1 : a1.IsWhole) (a2 : Memref sig .tc .vmem S1x2048 .f32) (h2 : a2.IsWhole)
    (a8 : Memref sig .tc .vmem S1024x2048 .fp8e4m3) (x0 : Vec F S1024x2048 .bf16) (x1 : Vec F S1x2048 .f32) :
    runA.sl.v3 (F := F) c a1 h1 a2 h2 a8 x0 x1 = xcF x0 x1 :=
  (View.readAt_full a8.view _ inb_S1024x2048_S1024x2048_0_0).trans (H7_8_read c a1 h1 a2 h2 x0 x1 a8 _)

/-- What it reads back of the scales is the activations' scales. -/
theorem v7_eq (c : Dev nD) (a1 : Memref sig .tc .vmem S1024x2048 .bf16) (h1 : a1.IsWhole) (a2 : Memref sig .tc .vmem S1x2048 .f32) (h2 : a2.IsWhole)
    (a9 : Memref sig .tc .vmem S1024x1 .f32) (x0 : Vec F S1024x2048 .bf16) (x1 : Vec F S1x2048 .f32) :
    runA.sl.v7 (F := F) c a1 h1 a2 h2 a9 x0 x1 = xsF x0 x1 :=
  (View.readAt_full a9.view _ inb_S1024x1_S1024x1_0_0).trans (H8_8_read c a1 h1 a2 h2 x0 x1 a9 _)

/-- What it reads back of the maxima is zero. -/
theorem v22_eq (c : Dev nD) (a11 : Memref sig .tc .vmem S8x512 .f32) : runA.sl.v22 (F := F) c a11 = am0F :=
  View.readCov_full a11.view inb_S8x512_S8x512_0_0 inb_S8x512_S8x512_0_0 _ _

set_option maxHeartbeats 4000000 in
/-- The body at a middle point. -/
theorem stepB (c : Dev nD) (i : grid0.Coords) (arg1 : Memref sig .tc .vmem S1024x2048 .bf16) (harg1 : arg1.IsWhole) (arg2 : Memref sig .tc .vmem S1x2048 .f32) (harg2 : arg2.IsWhole) (arg3 : Memref sig .tc .vmem S2048x512 .fp8e4m3) (harg3 : arg3.IsWhole) (arg4 : Memref sig .tc .vmem S1x512 .f32) (harg4 : arg4.IsWhole) (arg5 : Memref sig .tc .vmem S1024x8192 .fp8e4m3) (harg5 : arg5.IsWhole) (arg6 : Memref sig .tc .smem S1x1 .f32) (harg6 : arg6.IsWhole) (arg7 : Memref sig .tc .smem S1x1 .f32) (harg7 : arg7.IsWhole) (arg8 : Memref sig .tc .vmem S1024x2048 .fp8e4m3) (harg8 : arg8.IsWhole) (arg9 : Memref sig .tc .vmem S1024x1 .f32) (harg9 : arg9.IsWhole) (arg10 : Memref sig .tc .vmem S16x1024x512 .f32) (harg10 : arg10.IsWhole) (arg11 : Memref sig .tc .vmem S8x512 .f32) (harg11 : arg11.IsWhole) (hc0 : ¬cond0_0 i) (hc1 : ¬cond0_1 i)
    (x0 : Vec F S1024x2048 .bf16) (x1 : Vec F S1x2048 .f32) (x2 : Vec F S2048x512 .fp8e4m3) (x3 : Vec F S1x512 .f32) (x4 : Vec F S1024x8192 .fp8e4m3) (x5 : Vec F S1x1 .f32) (x6 : Vec F S1x1 .f32) (x7 : Vec F S1024x2048 .fp8e4m3) (x8 : Vec F S1024x1 .f32) (x9 : Vec F S16x1024x512 .f32) (x10 : Vec F S8x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (yPut (i 0).val x9 (yF x7 x2 x8 x3)) ∗ owns (c : Thread nD τ) arg11 fullShare (amF x7 x2 x8 x3 x10)) -∗ K ⟨⟩))
      ⊢ wp frame (wpE (defs₀ (F := F)) Variants.none c none) E (cc0_rmsnorm_fp8_linear i arg1 harg1 arg2 harg2 arg3 harg3 arg4 harg4 arg5 harg5 arg6 harg6 arg7 harg7 arg8 harg8 arg9 harg9 arg10 harg10 arg11 harg11) K := by
  iintro ⟨H0, H1, H2, H3, H4, H5, H6, H7, H8, H9, H10, Hk⟩
  iapply ((runB c i arg1 harg1 arg2 harg2 arg3 harg3 arg4 harg4 arg5 harg5 arg6 harg6 arg7 harg7 arg8 harg8 arg9 harg9 arg10 harg10 arg11 harg11 hc0 hc1 x0 x1 x2 x3 x7 x8 x10).2.2 x4 x5 x6 x9 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, ⟨%e10, H10⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro
    exact (read_yPut arg10 harg10 i x9 (k0_pay3 (View.readAt (Elt F) arg8.view (Rect.unit (s := S1024x2048) ![0, 0] S1024x2048.size inb_S1024x2048_S1024x2048_0_0).toLoadRect (harg8.unread x7)) (View.readAt (Elt F) arg3.view (Rect.unit (s := S2048x512) ![0, 0] S2048x512.size inb_S2048x512_S2048x512_0_0).toLoadRect (harg3.unread x2)) (View.readAt (Elt F) arg9.view (Rect.unit (s := S1024x1) ![0, 0] S1024x1.size inb_S1024x1_S1024x1_0_0).toLoadRect (harg9.unread x8)) (View.readAt (Elt F) arg4.view (Rect.unit (s := S1x512) ![0, 0] S1x512.size inb_S1x512_S1x512_0_0).toLoadRect (harg4.unread x3)))).trans (congrArg (yPut (i 0).val x9) (by rw [readAll, readAll, readAll, readAll]; rfl))
  unfold owns; iexists _; isplitr
  swap; · iexact H10
  ipureintro
  exact (View.read_writes_full arg11.view e10 inb_S8x512_S8x512_0_0 (k0_pay4 (View.readAt (Elt F) arg8.view (Rect.unit (s := S1024x2048) ![0, 0] S1024x2048.size inb_S1024x2048_S1024x2048_0_0).toLoadRect (harg8.unread x7)) (View.readAt (Elt F) arg3.view (Rect.unit (s := S2048x512) ![0, 0] S2048x512.size inb_S2048x512_S2048x512_0_0).toLoadRect (harg3.unread x2)) (View.readAt (Elt F) arg9.view (Rect.unit (s := S1024x1) ![0, 0] S1024x1.size inb_S1024x1_S1024x1_0_0).toLoadRect (harg9.unread x8)) (View.readAt (Elt F) arg4.view (Rect.unit (s := S1x512) ![0, 0] S1x512.size inb_S1x512_S1x512_0_0).toLoadRect (harg4.unread x3)) (View.readAt (Elt F) arg11.view (Rect.unit (s := S8x512) ![0, 0] S8x512.size inb_S8x512_S8x512_0_0).toLoadRect (harg11.unread x10))) _).trans (by rw [readAll, readAll, readAll, readAll, readAll]; rfl)

set_option maxHeartbeats 4000000 in
/-- The body at the first point. -/
theorem stepA (c : Dev nD) (i : grid0.Coords) (arg1 : Memref sig .tc .vmem S1024x2048 .bf16) (harg1 : arg1.IsWhole) (arg2 : Memref sig .tc .vmem S1x2048 .f32) (harg2 : arg2.IsWhole) (arg3 : Memref sig .tc .vmem S2048x512 .fp8e4m3) (harg3 : arg3.IsWhole) (arg4 : Memref sig .tc .vmem S1x512 .f32) (harg4 : arg4.IsWhole) (arg5 : Memref sig .tc .vmem S1024x8192 .fp8e4m3) (harg5 : arg5.IsWhole) (arg6 : Memref sig .tc .smem S1x1 .f32) (harg6 : arg6.IsWhole) (arg7 : Memref sig .tc .smem S1x1 .f32) (harg7 : arg7.IsWhole) (arg8 : Memref sig .tc .vmem S1024x2048 .fp8e4m3) (harg8 : arg8.IsWhole) (arg9 : Memref sig .tc .vmem S1024x1 .f32) (harg9 : arg9.IsWhole) (arg10 : Memref sig .tc .vmem S16x1024x512 .f32) (harg10 : arg10.IsWhole) (arg11 : Memref sig .tc .vmem S8x512 .f32) (harg11 : arg11.IsWhole) (hc0 : cond0_0 i) (hc1 : ¬cond0_1 i)
    (x0 : Vec F S1024x2048 .bf16) (x1 : Vec F S1x2048 .f32) (x2 : Vec F S2048x512 .fp8e4m3) (x3 : Vec F S1x512 .f32) (x4 : Vec F S1024x8192 .fp8e4m3) (x5 : Vec F S1x1 .f32) (x6 : Vec F S1x1 .f32) (x9 : Vec F S16x1024x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (xcF x0 x1) ∗ owns (c : Thread nD τ) arg9 fullShare (xsF x0 x1) ∗ owns (c : Thread nD τ) arg10 fullShare (yPut (i 0).val x9 (yF (xcF x0 x1) x2 (xsF x0 x1) x3)) ∗ owns (c : Thread nD τ) arg11 fullShare (amF (xcF x0 x1) x2 (xsF x0 x1) x3 am0F)) -∗ K ⟨⟩))
      ⊢ wp frame (wpE (defs₀ (F := F)) Variants.none c none) E (cc0_rmsnorm_fp8_linear i arg1 harg1 arg2 harg2 arg3 harg3 arg4 harg4 arg5 harg5 arg6 harg6 arg7 harg7 arg8 harg8 arg9 harg9 arg10 harg10 arg11 harg11) K := by
  iintro ⟨H0, H1, H2, H3, H4, H5, H6, H7, H8, H9, H10, Hk⟩
  iapply ((runA c i arg1 harg1 arg2 harg2 arg3 harg3 arg4 harg4 arg5 harg5 arg6 harg6 arg7 harg7 arg8 harg8 arg9 harg9 arg10 harg10 arg11 harg11 hc0 hc1 x0 x1 x2 x3).2.2.2.2 x4 x5 x6 x9 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, ⟨%e7, H7⟩, ⟨%e8, H8⟩, H9, ⟨%e10, H10⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact H7_8_read c arg1 harg1 arg2 harg2 x0 x1 arg8 e7
  isplitl [H8]
  · unfold owns; iexists _; isplitr
    swap; · iexact H8
    ipureintro; exact H8_8_read c arg1 harg1 arg2 harg2 x0 x1 arg9 e8
  isplitl [H9]
  · unfold owns; iexists _; isplitr
    swap; · iexact H9
    ipureintro
    exact (read_yPut arg10 harg10 i x9 (k0_pay3 (runA.sl.v3 c arg1 harg1 arg2 harg2 arg8 x0 x1) (View.readAt (Elt F) arg3.view (Rect.unit (s := S2048x512) ![0, 0] S2048x512.size inb_S2048x512_S2048x512_0_0).toLoadRect (harg3.unread x2)) (runA.sl.v7 c arg1 harg1 arg2 harg2 arg9 x0 x1) (View.readAt (Elt F) arg4.view (Rect.unit (s := S1x512) ![0, 0] S1x512.size inb_S1x512_S1x512_0_0).toLoadRect (harg4.unread x3)))).trans (congrArg (yPut (i 0).val x9) (by rw [v3_eq, v7_eq, readAll, readAll]; rfl))
  unfold owns; iexists _; isplitr
  swap; · iexact H10
  ipureintro
  exact (View.read_writes_full arg11.view e10 inb_S8x512_S8x512_0_0 (k0_pay4 (runA.sl.v3 c arg1 harg1 arg2 harg2 arg8 x0 x1) (View.readAt (Elt F) arg3.view (Rect.unit (s := S2048x512) ![0, 0] S2048x512.size inb_S2048x512_S2048x512_0_0).toLoadRect (harg3.unread x2)) (runA.sl.v7 c arg1 harg1 arg2 harg2 arg9 x0 x1) (View.readAt (Elt F) arg4.view (Rect.unit (s := S1x512) ![0, 0] S1x512.size inb_S1x512_S1x512_0_0).toLoadRect (harg4.unread x3)) (runA.sl.v22 c arg11)) _).trans (by rw [v3_eq, v7_eq, v22_eq, readAll, readAll]; rfl)

end Cert.KernelIdeal.Hand

end
-- ==== Proof.KernelIdeal.Epilogue.lean ====
module

public import proofs.«01_k».proof.Proof.KernelIdeal.Conds

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The epilogue the last point runs, on its own: the block's scale from the running maximum, then the sixteen
    column blocks of the scratch quantised one by one. -/
noncomputable def epi (i : grid0.Coords) (arg1 : Memref sig .tc .vmem S1024x2048 .bf16) (harg1 : arg1.IsWhole) (arg2 : Memref sig .tc .vmem S1x2048 .f32) (harg2 : arg2.IsWhole) (arg3 : Memref sig .tc .vmem S2048x512 .fp8e4m3) (harg3 : arg3.IsWhole) (arg4 : Memref sig .tc .vmem S1x512 .f32) (harg4 : arg4.IsWhole) (arg5 : Memref sig .tc .vmem S1024x8192 .fp8e4m3) (harg5 : arg5.IsWhole) (arg6 : Memref sig .tc .smem S1x1 .f32) (harg6 : arg6.IsWhole) (arg7 : Memref sig .tc .smem S1x1 .f32) (harg7 : arg7.IsWhole) (arg8 : Memref sig .tc .vmem S1024x2048 .fp8e4m3) (harg8 : arg8.IsWhole) (arg9 : Memref sig .tc .vmem S1024x1 .f32) (harg9 : arg9.IsWhole) (arg10 : Memref sig .tc .vmem S16x1024x512 .f32) (harg10 : arg10.IsWhole) (arg11 : Memref sig .tc .vmem S8x512 .f32) (harg11 : arg11.IsWhole) :
    Prog (TpuEff nD τ sig (Elt F) Λ₀ .tc) PUnit := do
  let ⟨v34, v37, v73, c4_i32⟩ : Σ' (v34 : F .f32) (v37 : FVec F S8x128 .f32) (v73 : IVec S8x128 32), BitVec 32 ← k0_part21 i arg1 harg1 arg2 harg2 arg3 harg3 arg4 harg4 arg5 harg5 arg6 harg6 arg7 harg7 arg8 harg8 arg9 harg9 arg10 harg10 arg11 harg11
  let ⟨v110, v115⟩ : Σ' (v110 : FVec F S8x128 .f32), FVec F S8x128 .f32 ← k0_part22 i arg1 harg1 arg2 harg2 arg3 harg3 arg4 harg4 arg5 harg5 arg6 harg6 arg7 harg7 arg8 harg8 arg9 harg9 arg10 harg10 arg11 harg11 v34 v37 v73 c4_i32
  let ⟨v125, v149, cst_55, v150⟩ : Σ' (v125 : F .f32) (v149 : FVec F S1024x512 .f32) (cst_55 : F .f32), FVec F S1024x512 .f32 ← k0_part23 i arg1 harg1 arg2 harg2 arg3 harg3 arg4 harg4 arg5 harg5 arg6 harg6 arg7 harg7 arg8 harg8 arg9 harg9 arg10 harg10 arg11 harg11 v110 v115
  let v184 : FVec F S1024x512 .fp8e4m3 ← k0_part24 i arg1 harg1 arg2 harg2 arg3 harg3 arg4 harg4 arg5 harg5 arg6 harg6 arg7 harg7 arg8 harg8 arg9 harg9 arg10 harg10 arg11 harg11 v125 v149 cst_55 v150
  let v216 : Vec F S1x1024x512 .f32 ← k0_part25 i arg1 harg1 arg2 harg2 arg3 harg3 arg4 harg4 arg5 harg5 arg6 harg6 arg7 harg7 arg8 harg8 arg9 harg9 arg10 harg10 arg11 harg11 v125 v184
  let ⟨v249, cst_105, v250⟩ : Σ' (v249 : FVec F S1024x512 .f32) (cst_105 : F .f32), FVec F S1024x512 .f32 ← k0_part26 i arg1 harg1 arg2 harg2 arg3 harg3 arg4 harg4 arg5 harg5 arg6 harg6 arg7 harg7 arg8 harg8 arg9 harg9 arg10 harg10 arg11 harg11 v125 v216
  let v284 : FVec F S1024x512 .fp8e4m3 ← k0_part27 i arg1 harg1 arg2 harg2 arg3 harg3 arg4 harg4 arg5 harg5 arg6 harg6 arg7 harg7 arg8 harg8 arg9 harg9 arg10 harg10 arg11 harg11 v125 v249 cst_105 v250
  let v285 : Vec F S1024x512 .fp8e4m3 ← Prog.lift (.load arg5 (Rect.unit (s := S1024x8192) ![0, 7680] S1024x512.size inb_S1024x8192_S1024x512_0_7680).toLoadRect (View.loadsAt_vmem h_S1024x512))
  Prog.lift (.store arg5 (Rect.unit (s := S1024x8192) ![0, 7680] S1024x512.size inb_S1024x8192_S1024x512_0_7680) v284 Finset.univ (View.stores_vmem h_S1024x512 (harg5.storeExact_slice rfl _ packedfp8e4m3_S1024x8192_S1024x512_0_7680) (fun _ => rfl)) (.inl rfl))
  pure ⟨⟩

set_option maxHeartbeats 4000000 in
/-- The epilogue's stores as pieces, with the proof that it ends with exactly those written and the scratch as it was. -/
noncomputable def runE (c : Dev nD) (i : grid0.Coords) (arg1 : Memref sig .tc .vmem S1024x2048 .bf16) (harg1 : arg1.IsWhole) (arg2 : Memref sig .tc .vmem S1x2048 .f32) (harg2 : arg2.IsWhole) (arg3 : Memref sig .tc .vmem S2048x512 .fp8e4m3) (harg3 : arg3.IsWhole) (arg4 : Memref sig .tc .vmem S1x512 .f32) (harg4 : arg4.IsWhole) (arg5 : Memref sig .tc .vmem S1024x8192 .fp8e4m3) (harg5 : arg5.IsWhole) (arg6 : Memref sig .tc .smem S1x1 .f32) (harg6 : arg6.IsWhole) (arg7 : Memref sig .tc .smem S1x1 .f32) (harg7 : arg7.IsWhole) (arg8 : Memref sig .tc .vmem S1024x2048 .fp8e4m3) (harg8 : arg8.IsWhole) (arg9 : Memref sig .tc .vmem S1024x1 .f32) (harg9 : arg9.IsWhole) (arg10 : Memref sig .tc .vmem S16x1024x512 .f32) (harg10 : arg10.IsWhole) (arg11 : Memref sig .tc .vmem S8x512 .f32) (harg11 : arg11.IsWhole)
    (x9 : Vec F S16x1024x512 .f32) (x10 : Vec F S8x512 .f32) :
    Σ' (L4 : List (View.Piece (Elt F) S1024x8192 .fp8e4m3)), Σ' (L5 : List (View.Piece (Elt F) S1x1 .f32)), { L6 : List (View.Piece (Elt F) S1x1 .f32) //
      ∀ (E : Set ℕ) (K : PUnit → sProp 𝕄),
        iprop((∃ d, owns (c : Thread nD τ) arg5 fullShare d) ∗ (∃ d, owns (c : Thread nD τ) arg6 fullShare d) ∗ (∃ d, owns (c : Thread nD τ) arg7 fullShare d) ∗ owns (c : Thread nD τ) arg10 fullShare x9 ∗ owns (c : Thread nD τ) arg11 fullShare x10
            ∗ (iprop((∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg10 fullShare x9 ∗ owns (c : Thread nD τ) arg11 fullShare x10) -∗ K ⟨⟩))
          ⊢ wp frame (wpE (defs₀ (F := F)) Variants.none c none) E (epi i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    unfold epi
    simp only [k0_part21_eq_skeleton, k0_part22_eq_skeleton, k0_part23_eq_skeleton, k0_part24_eq_skeleton, k0_part25_eq_skeleton, k0_part26_eq_skeleton, k0_part27_eq_skeleton]
    unfold owns
    iintro ⟨⟨%d4, %f4, -, H4⟩, ⟨%d5, %f5, -, H5⟩, ⟨%d6, %f6, -, H6⟩, ⟨%f9, %hf9, H9⟩, ⟨%f10, %hf10, H10⟩, Hk⟩
    obtain rfl := harg10.eq_unread hf9; obtain rfl := harg11.eq_unread hf10
    sl_exec
    sl_step
    iapply Hk
    isplitl [H4]; · iexists _; iexact H4
    isplitl [H5]; · iexists _; iexact H5
    isplitl [H6]; · iexists _; iexact H6
    isplitl [H9]
    · iexists _; isplitr; · ipureintro; exact harg10.read_unread _
      iexact H9
    iexists _; isplitr; · ipureintro; exact harg11.read_unread _
    iexact H10

end Cert.KernelIdeal.Hand

end
-- ==== Proof.KernelIdeal.StepLast.lean ====
module

public import proofs.«01_k».proof.Proof.KernelIdeal.Steps
public import proofs.«01_k».proof.Proof.KernelIdeal.Epilogue

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Idealize.ShloMosaic.ValueIdx

variable {F : FTy → Type} [FloatOps F]

local notation "𝕄" => MT nD τ sig Unit (Elt F) ℕ (UR sig nD τ) ℕ

/-- A load of one plane of the scratch. -/
theorem read_plane (a : Memref sig .tc .vmem S16x1024x512 .f32) (h : a.IsWhole) (x : Vec F S16x1024x512 .f32) (k : Fin 16)
    (o : Fin 3 → ℕ) (inb : ∀ a, o a + S1x1024x512.size a ≤ S16x1024x512.size a) (ho : o = ![k.val, 0, 0]) :
    View.readAt (Elt F) a.view (Rect.unit (s := S16x1024x512) o S1x1024x512.size inb).toLoadRect (h.unread x) = plane k x := by
  subst ho
  funext z
  rw [h.readAt_unread]
  have hz : (z 0).val < 1 := (z 0).isLt
  refine congrArg x (funext fun a => Fin.ext ?_)
  match a with
  | ⟨0, _⟩ => show k.val + 1 * (z 0).val = k.val; omega
  | ⟨1, _⟩ => show 0 + 1 * (z 1).val = (z 1).val; omega
  | ⟨2, _⟩ => show 0 + 1 * (z 2).val = (z 2).val; omega

/-- The pieces the epilogue stores into the codes, block by block. -/
theorem L4_raw (c : Dev nD) (i : grid0.Coords) (arg1 : Memref sig .tc .vmem S1024x2048 .bf16) (harg1 : arg1.IsWhole) (arg2 : Memref sig .tc .vmem S1x2048 .f32) (harg2 : arg2.IsWhole) (arg3 : Memref sig .tc .vmem S2048x512 .fp8e4m3) (harg3 : arg3.IsWhole) (arg4 : Memref sig .tc .vmem S1x512 .f32) (harg4 : arg4.IsWhole) (arg5 : Memref sig .tc .vmem S1024x8192 .fp8e4m3) (harg5 : arg5.IsWhole) (arg6 : Memref sig .tc .smem S1x1 .f32) (harg6 : arg6.IsWhole) (arg7 : Memref sig .tc .smem S1x1 .f32) (harg7 : arg7.IsWhole) (arg8 : Memref sig .tc .vmem S1024x2048 .fp8e4m3) (harg8 : arg8.IsWhole) (arg9 : Memref sig .tc .vmem S1024x1 .f32) (harg9 : arg9.IsWhole) (arg10 : Memref sig .tc .vmem S16x1024x512 .f32) (harg10 : arg10.IsWhole) (arg11 : Memref sig .tc .vmem S8x512 .f32) (harg11 : arg11.IsWhole) (x9 : Vec F S16x1024x512 .f32) (x10 : Vec F S8x512 .f32) : (runE c i arg1 harg1 arg2 harg2 arg3 harg3 arg4 harg4 arg5 harg5 arg6 harg6 arg7 harg7 arg8 harg8 arg9 harg9 arg10 harg10 arg11 harg11 x9 x10).1 = [⟨Rect.unit (s := S1024x8192) ![0, 7680] S1024x512.size inb_S1024x8192_S1024x512_0_7680, codesY (yinvF (View.readAt (Elt F) arg11.view (Rect.unit (s := S8x512) ![0, 0] S8x512.size inb_S8x512_S8x512_0_0).toLoadRect (harg11.unread x10))) (View.readAt (Elt F) arg10.view (Rect.unit (s := S16x1024x512) ![15, 0, 0] S1x1024x512.size inb_S16x1024x512_S1x1024x512_15_0_0).toLoadRect (harg10.unread x9))⟩, ⟨Rect.unit (s := S1024x8192) ![0, 7168] S1024x512.size inb_S1024x8192_S1024x512_0_7168, codesY (yinvF (View.readAt (Elt F) arg11.view (Rect.unit (s := S8x512) ![0, 0] S8x512.size inb_S8x512_S8x512_0_0).toLoadRect (harg11.unread x10))) (View.readAt (Elt F) arg10.view (Rect.unit (s := S16x1024x512) ![14, 0, 0] S1x1024x512.size inb_S16x1024x512_S1x1024x512_14_0_0).toLoadRect (harg10.unread x9))⟩, ⟨Rect.unit (s := S1024x8192) ![0, 6656] S1024x512.size inb_S1024x8192_S1024x512_0_6656, codesY (yinvF (View.readAt (Elt F) arg11.view (Rect.unit (s := S8x512) ![0, 0] S8x512.size inb_S8x512_S8x512_0_0).toLoadRect (harg11.unread x10))) (View.readAt (Elt F) arg10.view (Rect.unit (s := S16x1024x512) ![13, 0, 0] S1x1024x512.size inb_S16x1024x512_S1x1024x512_13_0_0).toLoadRect (harg10.unread x9))⟩, ⟨Rect.unit (s := S1024x8192) ![0, 6144] S1024x512.size inb_S1024x8192_S1024x512_0_6144, codesY (yinvF (View.readAt (Elt F) arg11.view (Rect.unit (s := S8x512) ![0, 0] S8x512.size inb_S8x512_S8x512_0_0).toLoadRect (harg11.unread x10))) (View.readAt (Elt F) arg10.view (Rect.unit (s := S16x1024x512) ![12, 0, 0] S1x1024x512.size inb_S16x1024x512_S1x1024x512_12_0_0).toLoadRect (harg10.unread x9))⟩, ⟨Rect.unit (s := S1024x8192) ![0, 5632] S1024x512.size inb_S1024x8192_S1024x512_0_5632, codesY (yinvF (View.readAt (Elt F) arg11.view (Rect.unit (s := S8x512) ![0, 0] S8x512.size inb_S8x512_S8x512_0_0).toLoadRect (harg11.unread x10))) (View.readAt (Elt F) arg10.view (Rect.unit (s := S16x1024x512) ![11, 0, 0] S1x1024x512.size inb_S16x1024x512_S1x1024x512_11_0_0).toLoadRect (harg10.unread x9))⟩, ⟨Rect.unit (s := S1024x8192) ![0, 5120] S1024x512.size inb_S1024x8192_S1024x512_0_5120, codesY (yinvF (View.readAt (Elt F) arg11.view (Rect.unit (s := S8x512) ![0, 0] S8x512.size inb_S8x512_S8x512_0_0).toLoadRect (harg11.unread x10))) (View.readAt (Elt F) arg10.view (Rect.unit (s := S16x1024x512) ![10, 0, 0] S1x1024x512.size inb_S16x1024x512_S1x1024x512_10_0_0).toLoadRect (harg10.unread x9))⟩, ⟨Rect.unit (s := S1024x8192) ![0, 4608] S1024x512.size inb_S1024x8192_S1024x512_0_4608, codesY (yinvF (View.readAt (Elt F) arg11.view (Rect.unit (s := S8x512) ![0, 0] S8x512.size inb_S8x512_S8x512_0_0).toLoadRect (harg11.unread x10))) (View.readAt (Elt F) arg10.view (Rect.unit (s := S16x1024x512) ![9, 0, 0] S1x1024x512.size inb_S16x1024x512_S1x1024x512_9_0_0).toLoadRect (harg10.unread x9))⟩, ⟨Rect.unit (s := S1024x8192) ![0, 4096] S1024x512.size inb_S1024x8192_S1024x512_0_4096, codesY (yinvF (View.readAt (Elt F) arg11.view (Rect.unit (s := S8x512) ![0, 0] S8x512.size inb_S8x512_S8x512_0_0).toLoadRect (harg11.unread x10))) (View.readAt (Elt F) arg10.view (Rect.unit (s := S16x1024x512) ![8, 0, 0] S1x1024x512.size inb_S16x1024x512_S1x1024x512_8_0_0).toLoadRect (harg10.unread x9))⟩, ⟨Rect.unit (s := S1024x8192) ![0, 3584] S1024x512.size inb_S1024x8192_S1024x512_0_3584, codesY (yinvF (View.readAt (Elt F) arg11.view (Rect.unit (s := S8x512) ![0, 0] S8x512.size inb_S8x512_S8x512_0_0).toLoadRect (harg11.unread x10))) (View.readAt (Elt F) arg10.view (Rect.unit (s := S16x1024x512) ![7, 0, 0] S1x1024x512.size inb_S16x1024x512_S1x1024x512_7_0_0).toLoadRect (harg10.unread x9))⟩, ⟨Rect.unit (s := S1024x8192) ![0, 3072] S1024x512.size inb_S1024x8192_S1024x512_0_3072, codesY (yinvF (View.readAt (Elt F) arg11.view (Rect.unit (s := S8x512) ![0, 0] S8x512.size inb_S8x512_S8x512_0_0).toLoadRect (harg11.unread x10))) (View.readAt (Elt F) arg10.view (Rect.unit (s := S16x1024x512) ![6, 0, 0] S1x1024x512.size inb_S16x1024x512_S1x1024x512_6_0_0).toLoadRect (harg10.unread x9))⟩, ⟨Rect.unit (s := S1024x8192) ![0, 2560] S1024x512.size inb_S1024x8192_S1024x512_0_2560, codesY (yinvF (View.readAt (Elt F) arg11.view (Rect.unit (s := S8x512) ![0, 0] S8x512.size inb_S8x512_S8x512_0_0).toLoadRect (harg11.unread x10))) (View.readAt (Elt F) arg10.view (Rect.unit (s := S16x1024x512) ![5, 0, 0] S1x1024x512.size inb_S16x1024x512_S1x1024x512_5_0_0).toLoadRect (harg10.unread x9))⟩, ⟨Rect.unit (s := S1024x8192) ![0, 2048] S1024x512.size inb_S1024x8192_S1024x512_0_2048, codesY (yinvF (View.readAt (Elt F) arg11.view (Rect.unit (s := S8x512) ![0, 0] S8x512.size inb_S8x512_S8x512_0_0).toLoadRect (harg11.unread x10))) (View.readAt (Elt F) arg10.view (Rect.unit (s := S16x1024x512) ![4, 0, 0] S1x1024x512.size inb_S16x1024x512_S1x1024x512_4_0_0).toLoadRect (harg10.unread x9))⟩, ⟨Rect.unit (s := S1024x8192) ![0, 1536] S1024x512.size inb_S1024x8192_S1024x512_0_1536, codesY (yinvF (View.readAt (Elt F) arg11.view (Rect.unit (s := S8x512) ![0, 0] S8x512.size inb_S8x512_S8x512_0_0).toLoadRect (harg11.unread x10))) (View.readAt (Elt F) arg10.view (Rect.unit (s := S16x1024x512) ![3, 0, 0] S1x1024x512.size inb_S16x1024x512_S1x1024x512_3_0_0).toLoadRect (harg10.unread x9))⟩, ⟨Rect.unit (s := S1024x8192) ![0, 1024] S1024x512.size inb_S1024x8192_S1024x512_0_1024, codesY (yinvF (View.readAt (Elt F) arg11.view (Rect.unit (s := S8x512) ![0, 0] S8x512.size inb_S8x512_S8x512_0_0).toLoadRect (harg11.unread x10))) (View.readAt (Elt F) arg10.view (Rect.unit (s := S16x1024x512) ![2, 0, 0] S1x1024x512.size inb_S16x1024x512_S1x1024x512_2_0_0).toLoadRect (harg10.unread x9))⟩, ⟨Rect.unit (s := S1024x8192) ![0, 512] S1024x512.size inb_S1024x8192_S1024x512_0_512, codesY (yinvF (View.readAt (Elt F) arg11.view (Rect.unit (s := S8x512) ![0, 0] S8x512.size inb_S8x512_S8x512_0_0).toLoadRect (harg11.unread x10))) (View.readAt (Elt F) arg10.view (Rect.unit (s := S16x1024x512) ![1, 0, 0] S1x1024x512.size inb_S16x1024x512_S1x1024x512_1_0_0).toLoadRect (harg10.unread x9))⟩, ⟨Rect.unit (s := S1024x8192) ![0, 0] S1024x512.size inb_S1024x8192_S1024x512_0_0, codesY (yinvF (View.readAt (Elt F) arg11.view (Rect.unit (s := S8x512) ![0, 0] S8x512.size inb_S8x512_S8x512_0_0).toLoadRect (harg11.unread x10))) (View.readAt (Elt F) arg10.view (Rect.unit (s := S16x1024x512) ![0, 0, 0] S1x1024x512.size inb_S16x1024x512_S1x1024x512_0_0_0).toLoadRect (harg10.unread x9))⟩] := rfl

/-- The stores of codes at the last point leave the product's codes. -/
theorem L4_eq (c : Dev nD) (i : grid0.Coords) (arg1 : Memref sig .tc .vmem S1024x2048 .bf16) (harg1 : arg1.IsWhole) (arg2 : Memref sig .tc .vmem S1x2048 .f32) (harg2 : arg2.IsWhole) (arg3 : Memref sig .tc .vmem S2048x512 .fp8e4m3) (harg3 : arg3.IsWhole) (arg4 : Memref sig .tc .vmem S1x512 .f32) (harg4 : arg4.IsWhole) (arg5 : Memref sig .tc .vmem S1024x8192 .fp8e4m3) (harg5 : arg5.IsWhole) (arg6 : Memref sig .tc .smem S1x1 .f32) (harg6 : arg6.IsWhole) (arg7 : Memref sig .tc .smem S1x1 .f32) (harg7 : arg7.IsWhole) (arg8 : Memref sig .tc .vmem S1024x2048 .fp8e4m3) (harg8 : arg8.IsWhole) (arg9 : Memref sig .tc .vmem S1024x1 .f32) (harg9 : arg9.IsWhole) (arg10 : Memref sig .tc .vmem S16x1024x512 .f32) (harg10 : arg10.IsWhole) (arg11 : Memref sig .tc .vmem S8x512 .f32) (harg11 : arg11.IsWhole) (x9 : Vec F S16x1024x512 .f32) (x10 : Vec F S8x512 .f32) : (runE c i arg1 harg1 arg2 harg2 arg3 harg3 arg4 harg4 arg5 harg5 arg6 harg6 arg7 harg7 arg8 harg8 arg9 harg9 arg10 harg10 arg11 harg11 x9 x10).1 = [⟨Rect.unit (s := S1024x8192) ![0, 7680] S1024x512.size inb_S1024x8192_S1024x512_0_7680, codesY (yinvF x10) (plane 15 x9)⟩, ⟨Rect.unit (s := S1024x8192) ![0, 7168] S1024x512.size inb_S1024x8192_S1024x512_0_7168, codesY (yinvF x10) (plane 14 x9)⟩, ⟨Rect.unit (s := S1024x8192) ![0, 6656] S1024x512.size inb_S1024x8192_S1024x512_0_6656, codesY (yinvF x10) (plane 13 x9)⟩, ⟨Rect.unit (s := S1024x8192) ![0, 6144] S1024x512.size inb_S1024x8192_S1024x512_0_6144, codesY (yinvF x10) (plane 12 x9)⟩, ⟨Rect.unit (s := S1024x8192) ![0, 5632] S1024x512.size inb_S1024x8192_S1024x512_0_5632, codesY (yinvF x10) (plane 11 x9)⟩, ⟨Rect.unit (s := S1024x8192) ![0, 5120] S1024x512.size inb_S1024x8192_S1024x512_0_5120, codesY (yinvF x10) (plane 10 x9)⟩, ⟨Rect.unit (s := S1024x8192) ![0, 4608] S1024x512.size inb_S1024x8192_S1024x512_0_4608, codesY (yinvF x10) (plane 9 x9)⟩, ⟨Rect.unit (s := S1024x8192) ![0, 4096] S1024x512.size inb_S1024x8192_S1024x512_0_4096, codesY (yinvF x10) (plane 8 x9)⟩, ⟨Rect.unit (s := S1024x8192) ![0, 3584] S1024x512.size inb_S1024x8192_S1024x512_0_3584, codesY (yinvF x10) (plane 7 x9)⟩, ⟨Rect.unit (s := S1024x8192) ![0, 3072] S1024x512.size inb_S1024x8192_S1024x512_0_3072, codesY (yinvF x10) (plane 6 x9)⟩, ⟨Rect.unit (s := S1024x8192) ![0, 2560] S1024x512.size inb_S1024x8192_S1024x512_0_2560, codesY (yinvF x10) (plane 5 x9)⟩, ⟨Rect.unit (s := S1024x8192) ![0, 2048] S1024x512.size inb_S1024x8192_S1024x512_0_2048, codesY (yinvF x10) (plane 4 x9)⟩, ⟨Rect.unit (s := S1024x8192) ![0, 1536] S1024x512.size inb_S1024x8192_S1024x512_0_1536, codesY (yinvF x10) (plane 3 x9)⟩, ⟨Rect.unit (s := S1024x8192) ![0, 1024] S1024x512.size inb_S1024x8192_S1024x512_0_1024, codesY (yinvF x10) (plane 2 x9)⟩, ⟨Rect.unit (s := S1024x8192) ![0, 512] S1024x512.size inb_S1024x8192_S1024x512_0_512, codesY (yinvF x10) (plane 1 x9)⟩, ⟨Rect.unit (s := S1024x8192) ![0, 0] S1024x512.size inb_S1024x8192_S1024x512_0_0, codesY (yinvF x10) (plane 0 x9)⟩] := by
  rw [L4_raw, readAll arg11 harg11 x10 ![0, 0] inb_S8x512_S8x512_0_0]
  simp only [read_plane arg10 harg10 x9 0 ![0, 0, 0] _ rfl, read_plane arg10 harg10 x9 1 ![1, 0, 0] _ rfl, read_plane arg10 harg10 x9 2 ![2, 0, 0] _ rfl, read_plane arg10 harg10 x9 3 ![3, 0, 0] _ rfl, read_plane arg10 harg10 x9 4 ![4, 0, 0] _ rfl, read_plane arg10 harg10 x9 5 ![5, 0, 0] _ rfl, read_plane arg10 harg10 x9 6 ![6, 0, 0] _ rfl, read_plane arg10 harg10 x9 7 ![7, 0, 0] _ rfl, read_plane arg10 harg10 x9 8 ![8, 0, 0] _ rfl, read_plane arg10 harg10 x9 9 ![9, 0, 0] _ rfl, read_plane arg10 harg10 x9 10 ![10, 0, 0] _ rfl, read_plane arg10 harg10 x9 11 ![11, 0, 0] _ rfl, read_plane arg10 harg10 x9 12 ![12, 0, 0] _ rfl, read_plane arg10 harg10 x9 13 ![13, 0, 0] _ rfl, read_plane arg10 harg10 x9 14 ![14, 0, 0] _ rfl, read_plane arg10 harg10 x9 15 ![15, 0, 0] _ rfl]

/-- What the epilogue's pieces leave, whatever was there before. -/
theorem L4_read (c : Dev nD) (i : grid0.Coords) (arg1 : Memref sig .tc .vmem S1024x2048 .bf16) (harg1 : arg1.IsWhole) (arg2 : Memref sig .tc .vmem S1x2048 .f32) (harg2 : arg2.IsWhole) (arg3 : Memref sig .tc .vmem S2048x512 .fp8e4m3) (harg3 : arg3.IsWhole) (arg4 : Memref sig .tc .vmem S1x512 .f32) (harg4 : arg4.IsWhole) (arg5 : Memref sig .tc .vmem S1024x8192 .fp8e4m3) (harg5 : arg5.IsWhole) (arg6 : Memref sig .tc .smem S1x1 .f32) (harg6 : arg6.IsWhole) (arg7 : Memref sig .tc .smem S1x1 .f32) (harg7 : arg7.IsWhole) (arg8 : Memref sig .tc .vmem S1024x2048 .fp8e4m3) (harg8 : arg8.IsWhole) (arg9 : Memref sig .tc .vmem S1024x1 .f32) (harg9 : arg9.IsWhole) (arg10 : Memref sig .tc .vmem S16x1024x512 .f32) (harg10 : arg10.IsWhole) (arg11 : Memref sig .tc .vmem S8x512 .f32) (harg11 : arg11.IsWhole) (x9 : Vec F S16x1024x512 .f32) (x10 : Vec F S8x512 .f32) (f : arg5.view.ty.Contents (Elt F)) :
    arg5.view.read (Elt F) (arg5.view.writes (Elt F) f (runE c i arg1 harg1 arg2 harg2 arg3 harg3 arg4 harg4 arg5 harg5 arg6 harg6 arg7 harg7 arg8 harg8 arg9 harg9 arg10 harg10 arg11 harg11 x9 x10).1) = ycF x9 x10 := by
  rw [L4_eq]
  funext y
  refine View.read_writes_apply_of_pieces arg5.view f (ycF x9 x10) _ ?_ y ?_
  · intro p hp
    simp only [List.mem_cons, List.not_mem_nil, or_false] at hp
    rcases hp with rfl | rfl | rfl | rfl | rfl | rfl | rfl | rfl | rfl | rfl | rfl | rfl | rfl | rfl | rfl | rfl
    · intro z; exact (ycF_col x9 x10 15 z _ (by show 0 + 1 * (z 0).val = (z 0).val; omega) (by show 7680 + 1 * (z 1).val = 512 * 15 + (z 1).val; omega)).symm
    · intro z; exact (ycF_col x9 x10 14 z _ (by show 0 + 1 * (z 0).val = (z 0).val; omega) (by show 7168 + 1 * (z 1).val = 512 * 14 + (z 1).val; omega)).symm
    · intro z; exact (ycF_col x9 x10 13 z _ (by show 0 + 1 * (z 0).val = (z 0).val; omega) (by show 6656 + 1 * (z 1).val = 512 * 13 + (z 1).val; omega)).symm
    · intro z; exact (ycF_col x9 x10 12 z _ (by show 0 + 1 * (z 0).val = (z 0).val; omega) (by show 6144 + 1 * (z 1).val = 512 * 12 + (z 1).val; omega)).symm
    · intro z; exact (ycF_col x9 x10 11 z _ (by show 0 + 1 * (z 0).val = (z 0).val; omega) (by show 5632 + 1 * (z 1).val = 512 * 11 + (z 1).val; omega)).symm
    · intro z; exact (ycF_col x9 x10 10 z _ (by show 0 + 1 * (z 0).val = (z 0).val; omega) (by show 5120 + 1 * (z 1).val = 512 * 10 + (z 1).val; omega)).symm
    · intro z; exact (ycF_col x9 x10 9 z _ (by show 0 + 1 * (z 0).val = (z 0).val; omega) (by show 4608 + 1 * (z 1).val = 512 * 9 + (z 1).val; omega)).symm
    · intro z; exact (ycF_col x9 x10 8 z _ (by show 0 + 1 * (z 0).val = (z 0).val; omega) (by show 4096 + 1 * (z 1).val = 512 * 8 + (z 1).val; omega)).symm
    · intro z; exact (ycF_col x9 x10 7 z _ (by show 0 + 1 * (z 0).val = (z 0).val; omega) (by show 3584 + 1 * (z 1).val = 512 * 7 + (z 1).val; omega)).symm
    · intro z; exact (ycF_col x9 x10 6 z _ (by show 0 + 1 * (z 0).val = (z 0).val; omega) (by show 3072 + 1 * (z 1).val = 512 * 6 + (z 1).val; omega)).symm
    · intro z; exact (ycF_col x9 x10 5 z _ (by show 0 + 1 * (z 0).val = (z 0).val; omega) (by show 2560 + 1 * (z 1).val = 512 * 5 + (z 1).val; omega)).symm
    · intro z; exact (ycF_col x9 x10 4 z _ (by show 0 + 1 * (z 0).val = (z 0).val; omega) (by show 2048 + 1 * (z 1).val = 512 * 4 + (z 1).val; omega)).symm
    · intro z; exact (ycF_col x9 x10 3 z _ (by show 0 + 1 * (z 0).val = (z 0).val; omega) (by show 1536 + 1 * (z 1).val = 512 * 3 + (z 1).val; omega)).symm
    · intro z; exact (ycF_col x9 x10 2 z _ (by show 0 + 1 * (z 0).val = (z 0).val; omega) (by show 1024 + 1 * (z 1).val = 512 * 2 + (z 1).val; omega)).symm
    · intro z; exact (ycF_col x9 x10 1 z _ (by show 0 + 1 * (z 0).val = (z 0).val; omega) (by show 512 + 1 * (z 1).val = 512 * 1 + (z 1).val; omega)).symm
    · intro z; exact (ycF_col x9 x10 0 z _ (by show 0 + 1 * (z 0).val = (z 0).val; omega) (by show 0 + 1 * (z 1).val = 512 * 0 + (z 1).val; omega)).symm
  · have hy0 : (y 0).val < 1024 := (y 0).isLt
    have hy1 : (y 1).val < 8192 := (y 1).isLt
    have key : ∀ (k : ℕ) (inb : ∀ a, (![0, 512 * k] : Fin 2 → ℕ) a + S1024x512.size a ≤ S1024x8192.size a), (y 1).val / 512 = k → y ∈ (Rect.unit (s := S1024x8192) ![0, 512 * k] S1024x512.size inb).set := by
      intro k inb hk
      rw [Rect.mem_set_unit]
      intro a
      match a with
      | ⟨0, _⟩ => exact ⟨Nat.zero_le _, (by show (y 0).val < 0 + 1024; omega)⟩
      | ⟨1, _⟩ => exact ⟨(by show 512 * k ≤ (y 1).val; omega), (by show (y 1).val < 512 * k + 512; omega)⟩
    rcases (show (y 1).val / 512 = 15 ∨ (y 1).val / 512 = 14 ∨ (y 1).val / 512 = 13 ∨ (y 1).val / 512 = 12 ∨ (y 1).val / 512 = 11 ∨ (y 1).val / 512 = 10 ∨ (y 1).val / 512 = 9 ∨ (y 1).val / 512 = 8 ∨ (y 1).val / 512 = 7 ∨ (y 1).val / 512 = 6 ∨ (y 1).val / 512 = 5 ∨ (y 1).val / 512 = 4 ∨ (y 1).val / 512 = 3 ∨ (y 1).val / 512 = 2 ∨ (y 1).val / 512 = 1 ∨ (y 1).val / 512 = 0 by omega) with h | h | h | h | h | h | h | h | h | h | h | h | h | h | h | h
    · exact ⟨_, (List.mem_cons_self), key 15 inb_S1024x8192_S1024x512_0_7680 h⟩
    · exact ⟨_, (List.mem_cons_of_mem _ (List.mem_cons_self)), key 14 inb_S1024x8192_S1024x512_0_7168 h⟩
    · exact ⟨_, (List.mem_cons_of_mem _ (List.mem_cons_of_mem _ (List.mem_cons_self))), key 13 inb_S1024x8192_S1024x512_0_6656 h⟩
    · exact ⟨_, (List.mem_cons_of_mem _ (List.mem_cons_of_mem _ (List.mem_cons_of_mem _ (List.mem_cons_self)))), key 12 inb_S1024x8192_S1024x512_0_6144 h⟩
    · exact ⟨_, (List.mem_cons_of_mem _ (List.mem_cons_of_mem _ (List.mem_cons_of_mem _ (List.mem_cons_of_mem _ (List.mem_cons_self))))), key 11 inb_S1024x8192_S1024x512_0_5632 h⟩
    · exact ⟨_, (List.mem_cons_of_mem _ (List.mem_cons_of_mem _ (List.mem_cons_of_mem _ (List.mem_cons_of_mem _ (List.mem_cons_of_mem _ (List.mem_cons_self)))))), key 10 inb_S1024x8192_S1024x512_0_5120 h⟩
    · exact ⟨_, (List.mem_cons_of_mem _ (List.mem_cons_of_mem _ (List.mem_cons_of_mem _ (List.mem_cons_of_mem _ (List.mem_cons_of_mem _ (List.mem_cons_of_mem _ (List.mem_cons_self))))))), key 9 inb_S1024x8192_S1024x512_0_4608 h⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_self)))))))), key 8 inb_S1024x8192_S1024x512_0_4096 h⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), key 7 inb_S1024x8192_S1024x512_0_3584 h⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), key 6 inb_S1024x8192_S1024x512_0_3072 h⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), key 5 inb_S1024x8192_S1024x512_0_2560 h⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), key 4 inb_S1024x8192_S1024x512_0_2048 h⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), key 3 inb_S1024x8192_S1024x512_0_1536 h⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), key 2 inb_S1024x8192_S1024x512_0_1024 h⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), key 1 inb_S1024x8192_S1024x512_0_512 h⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), key 0 inb_S1024x8192_S1024x512_0_0 h⟩

/-- A cell that is stored reads as what was stored. -/
theorem cell_read (a : Memref sig .tc .smem S1x1 .f32) (f : a.view.ty.Contents (Elt F)) (p : Vec F S1x1 .f32) (inb : ∀ a, (![0, 0] : Fin 2 → ℕ) a + S1x1.size a ≤ S1x1.size a)  :
    a.view.read (Elt F) (a.view.writes (Elt F) f [⟨Rect.unit (s := S1x1) ![0, 0] S1x1.size inb, p⟩]) = p :=
  View.read_writes_full a.view f inb p _

/-- The cell of the scale reads as the scale. -/
theorem L5_read (c : Dev nD) (i : grid0.Coords) (arg1 : Memref sig .tc .vmem S1024x2048 .bf16) (harg1 : arg1.IsWhole) (arg2 : Memref sig .tc .vmem S1x2048 .f32) (harg2 : arg2.IsWhole) (arg3 : Memref sig .tc .vmem S2048x512 .fp8e4m3) (harg3 : arg3.IsWhole) (arg4 : Memref sig .tc .vmem S1x512 .f32) (harg4 : arg4.IsWhole) (arg5 : Memref sig .tc .vmem S1024x8192 .fp8e4m3) (harg5 : arg5.IsWhole) (arg6 : Memref sig .tc .smem S1x1 .f32) (harg6 : arg6.IsWhole) (arg7 : Memref sig .tc .smem S1x1 .f32) (harg7 : arg7.IsWhole) (arg8 : Memref sig .tc .vmem S1024x2048 .fp8e4m3) (harg8 : arg8.IsWhole) (arg9 : Memref sig .tc .vmem S1024x1 .f32) (harg9 : arg9.IsWhole) (arg10 : Memref sig .tc .vmem S16x1024x512 .f32) (harg10 : arg10.IsWhole) (arg11 : Memref sig .tc .vmem S8x512 .f32) (harg11 : arg11.IsWhole) (x9 : Vec F S16x1024x512 .f32) (x10 : Vec F S8x512 .f32) (f : arg6.view.ty.Contents (Elt F)) :
    arg6.view.read (Elt F) (arg6.view.writes (Elt F) f (runE c i arg1 harg1 arg2 harg2 arg3 harg3 arg4 harg4 arg5 harg5 arg6 harg6 arg7 harg7 arg8 harg8 arg9 harg9 arg10 harg10 arg11 harg11 x9 x10).2.1) = fun _ => yscF x10 :=
  (cell_read arg6 f (fun _ => yscF (View.readAt (Elt F) arg11.view (Rect.unit (s := S8x512) ![0, 0] S8x512.size inb_S8x512_S8x512_0_0).toLoadRect (harg11.unread x10))) inb_S1x1_S1x1_0_0).trans (by rw [readAll])

/-- The cell of the maximum reads as the maximum. -/
theorem L6_read (c : Dev nD) (i : grid0.Coords) (arg1 : Memref sig .tc .vmem S1024x2048 .bf16) (harg1 : arg1.IsWhole) (arg2 : Memref sig .tc .vmem S1x2048 .f32) (harg2 : arg2.IsWhole) (arg3 : Memref sig .tc .vmem S2048x512 .fp8e4m3) (harg3 : arg3.IsWhole) (arg4 : Memref sig .tc .vmem S1x512 .f32) (harg4 : arg4.IsWhole) (arg5 : Memref sig .tc .vmem S1024x8192 .fp8e4m3) (harg5 : arg5.IsWhole) (arg6 : Memref sig .tc .smem S1x1 .f32) (harg6 : arg6.IsWhole) (arg7 : Memref sig .tc .smem S1x1 .f32) (harg7 : arg7.IsWhole) (arg8 : Memref sig .tc .vmem S1024x2048 .fp8e4m3) (harg8 : arg8.IsWhole) (arg9 : Memref sig .tc .vmem S1024x1 .f32) (harg9 : arg9.IsWhole) (arg10 : Memref sig .tc .vmem S16x1024x512 .f32) (harg10 : arg10.IsWhole) (arg11 : Memref sig .tc .vmem S8x512 .f32) (harg11 : arg11.IsWhole) (x9 : Vec F S16x1024x512 .f32) (x10 : Vec F S8x512 .f32) (f : arg7.view.ty.Contents (Elt F)) :
    arg7.view.read (Elt F) (arg7.view.writes (Elt F) f (runE c i arg1 harg1 arg2 harg2 arg3 harg3 arg4 harg4 arg5 harg5 arg6 harg6 arg7 harg7 arg8 harg8 arg9 harg9 arg10 harg10 arg11 harg11 x9 x10).2.2.1) = fun _ => amaxF x10 :=
  (cell_read arg7 f (fun _ => amaxF (View.readAt (Elt F) arg11.view (Rect.unit (s := S8x512) ![0, 0] S8x512.size inb_S8x512_S8x512_0_0).toLoadRect (harg11.unread x10))) inb_S1x1_S1x1_0_0).trans (by rw [readAll])

set_option maxHeartbeats 4000000 in
/-- The body at the last point. -/
theorem stepC (c : Dev nD) (i : grid0.Coords) (arg1 : Memref sig .tc .vmem S1024x2048 .bf16) (harg1 : arg1.IsWhole) (arg2 : Memref sig .tc .vmem S1x2048 .f32) (harg2 : arg2.IsWhole) (arg3 : Memref sig .tc .vmem S2048x512 .fp8e4m3) (harg3 : arg3.IsWhole) (arg4 : Memref sig .tc .vmem S1x512 .f32) (harg4 : arg4.IsWhole) (arg5 : Memref sig .tc .vmem S1024x8192 .fp8e4m3) (harg5 : arg5.IsWhole) (arg6 : Memref sig .tc .smem S1x1 .f32) (harg6 : arg6.IsWhole) (arg7 : Memref sig .tc .smem S1x1 .f32) (harg7 : arg7.IsWhole) (arg8 : Memref sig .tc .vmem S1024x2048 .fp8e4m3) (harg8 : arg8.IsWhole) (arg9 : Memref sig .tc .vmem S1024x1 .f32) (harg9 : arg9.IsWhole) (arg10 : Memref sig .tc .vmem S16x1024x512 .f32) (harg10 : arg10.IsWhole) (arg11 : Memref sig .tc .vmem S8x512 .f32) (harg11 : arg11.IsWhole) (hc0 : ¬cond0_0 i) (hc1 : cond0_1 i)
    (x0 : Vec F S1024x2048 .bf16) (x1 : Vec F S1x2048 .f32) (x2 : Vec F S2048x512 .fp8e4m3) (x3 : Vec F S1x512 .f32) (x7 : Vec F S1024x2048 .fp8e4m3) (x8 : Vec F S1024x1 .f32) (x9 : Vec F S16x1024x512 .f32) (x10 : Vec F S8x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare x7 ∗ owns (c : Thread nD τ) arg9 fullShare x8 ∗ owns (c : Thread nD τ) arg10 fullShare x9 ∗ owns (c : Thread nD τ) arg11 fullShare x10
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (ycF (yPut (i 0).val x9 (yF x7 x2 x8 x3)) (amF x7 x2 x8 x3 x10)) ∗ owns (c : Thread nD τ) arg6 fullShare (fun _ => yscF (amF x7 x2 x8 x3 x10)) ∗ owns (c : Thread nD τ) arg7 fullShare (fun _ => amaxF (amF x7 x2 x8 x3 x10)) ∗ owns (c : Thread nD τ) arg8 fullShare x7 ∗ owns (c : Thread nD τ) arg9 fullShare x8 ∗ owns (c : Thread nD τ) arg10 fullShare (yPut (i 0).val x9 (yF x7 x2 x8 x3)) ∗ owns (c : Thread nD τ) arg11 fullShare (amF x7 x2 x8 x3 x10)) -∗ K ⟨⟩))
      ⊢ wp frame (wpE (defs₀ (F := F)) Variants.none c none) E (cc0_rmsnorm_fp8_linear i arg1 harg1 arg2 harg2 arg3 harg3 arg4 harg4 arg5 harg5 arg6 harg6 arg7 harg7 arg8 harg8 arg9 harg9 arg10 harg10 arg11 harg11) K := by
  simp only [cc0_rmsnorm_fp8_linear_eq_skeleton]; unfold cc0_rmsnorm_fp8_linear_skel
  iintro ⟨H0, H1, H2, H3, H4, H5, H6, H7, H8, H9, H10, Hk⟩
  unfold owns
  icases H0 with ⟨%f0, %hf0, H0⟩
  icases H1 with ⟨%f1, %hf1, H1⟩
  icases H2 with ⟨%f2, %hf2, H2⟩
  icases H3 with ⟨%f3, %hf3, H3⟩
  icases H7 with ⟨%f7, %hf7, H7⟩
  icases H8 with ⟨%f8, %hf8, H8⟩
  icases H9 with ⟨%f9, %hf9, H9⟩
  icases H10 with ⟨%f10, %hf10, H10⟩
  obtain rfl := harg1.eq_unread hf0; obtain rfl := harg2.eq_unread hf1; obtain rfl := harg3.eq_unread hf2; obtain rfl := harg4.eq_unread hf3; obtain rfl := harg8.eq_unread hf7; obtain rfl := harg9.eq_unread hf8; obtain rfl := harg10.eq_unread hf9; obtain rfl := harg11.eq_unread hf10
  set_option sl_exec.stopBefore "k0_cond2" in sl_exec (disch := sl_exact hc0)
  rw [dif_pos hc1]
  iapply ((runE c i arg1 harg1 arg2 harg2 arg3 harg3 arg4 harg4 arg5 harg5 arg6 harg6 arg7 harg7 arg8 harg8 arg9 harg9 arg10 harg10 arg11 harg11 (yPut (i 0).val x9 (yF x7 x2 x8 x3)) (amF x7 x2 x8 x3 x10)).2.2.2 E K)
  isplitl [H4]; · iexact H4
  isplitl [H5]; · iexact H5
  isplitl [H6]; · iexact H6
  isplitl [H9]
  · unfold owns; iexists _; isplitr
    swap; · iexact H9
    ipureintro
    exact (read_yPut arg10 harg10 i x9 (k0_pay3 (View.readAt (Elt F) arg8.view (Rect.unit (s := S1024x2048) ![0, 0] S1024x2048.size inb_S1024x2048_S1024x2048_0_0).toLoadRect (harg8.unread x7)) (View.readAt (Elt F) arg3.view (Rect.unit (s := S2048x512) ![0, 0] S2048x512.size inb_S2048x512_S2048x512_0_0).toLoadRect (harg3.unread x2)) (View.readAt (Elt F) arg9.view (Rect.unit (s := S1024x1) ![0, 0] S1024x1.size inb_S1024x1_S1024x1_0_0).toLoadRect (harg9.unread x8)) (View.readAt (Elt F) arg4.view (Rect.unit (s := S1x512) ![0, 0] S1x512.size inb_S1x512_S1x512_0_0).toLoadRect (harg4.unread x3)))).trans (congrArg (yPut (i 0).val x9) (by rw [readAll, readAll, readAll, readAll]; rfl))
  isplitl [H10]
  · unfold owns; iexists _; isplitr
    swap; · iexact H10
    ipureintro
    exact (View.read_writes_full arg11.view (harg11.unread x10) inb_S8x512_S8x512_0_0 (k0_pay4 (View.readAt (Elt F) arg8.view (Rect.unit (s := S1024x2048) ![0, 0] S1024x2048.size inb_S1024x2048_S1024x2048_0_0).toLoadRect (harg8.unread x7)) (View.readAt (Elt F) arg3.view (Rect.unit (s := S2048x512) ![0, 0] S2048x512.size inb_S2048x512_S2048x512_0_0).toLoadRect (harg3.unread x2)) (View.readAt (Elt F) arg9.view (Rect.unit (s := S1024x1) ![0, 0] S1024x1.size inb_S1024x1_S1024x1_0_0).toLoadRect (harg9.unread x8)) (View.readAt (Elt F) arg4.view (Rect.unit (s := S1x512) ![0, 0] S1x512.size inb_S1x512_S1x512_0_0).toLoadRect (harg4.unread x3)) (View.readAt (Elt F) arg11.view (Rect.unit (s := S8x512) ![0, 0] S8x512.size inb_S8x512_S8x512_0_0).toLoadRect (harg11.unread x10))) _).trans (by rw [readAll, readAll, readAll, readAll, readAll]; rfl)
  iintro ⟨⟨%e4, H4⟩, ⟨%e5, H5⟩, ⟨%e6, H6⟩, H9, H10⟩
  iapply Hk
  isplitl [H0]
  · iexists _; isplitr
    swap; · iexact H0
    ipureintro; exact harg1.read_unread _
  isplitl [H1]
  · iexists _; isplitr
    swap; · iexact H1
    ipureintro; exact harg2.read_unread _
  isplitl [H2]
  · iexists _; isplitr
    swap; · iexact H2
    ipureintro; exact harg3.read_unread _
  isplitl [H3]
  · iexists _; isplitr
    swap; · iexact H3
    ipureintro; exact harg4.read_unread _
  isplitl [H4]
  · iexists _; isplitr
    swap; · iexact H4
    ipureintro; exact L4_read c i arg1 harg1 arg2 harg2 arg3 harg3 arg4 harg4 arg5 harg5 arg6 harg6 arg7 harg7 arg8 harg8 arg9 harg9 arg10 harg10 arg11 harg11 (yPut (i 0).val x9 (yF x7 x2 x8 x3)) (amF x7 x2 x8 x3 x10) e4
  isplitl [H5]
  · iexists _; isplitr
    swap; · iexact H5
    ipureintro; exact L5_read c i arg1 harg1 arg2 harg2 arg3 harg3 arg4 harg4 arg5 harg5 arg6 harg6 arg7 harg7 arg8 harg8 arg9 harg9 arg10 harg10 arg11 harg11 (yPut (i 0).val x9 (yF x7 x2 x8 x3)) (amF x7 x2 x8 x3 x10) e5
  isplitl [H6]
  · iexists _; isplitr
    swap; · iexact H6
    ipureintro; exact L6_read c i arg1 harg1 arg2 harg2 arg3 harg3 arg4 harg4 arg5 harg5 arg6 harg6 arg7 harg7 arg8 harg8 arg9 harg9 arg10 harg10 arg11 harg11 (yPut (i 0).val x9 (yF x7 x2 x8 x3)) (amF x7 x2 x8 x3 x10) e6
  isplitl [H7]
  · iexists _; isplitr
    swap; · iexact H7
    ipureintro; exact harg8.read_unread _
  isplitl [H8]
  · iexists _; isplitr
    swap; · iexact H8
    ipureintro; exact harg9.read_unread _
  isplitl [H9]; · unfold owns; iexact H9
  unfold owns; iexact H10

end Cert.KernelIdeal.Hand

end
-- ==== Proof.KernelIdeal.Data.lean ====
module

public import proofs.«01_k».proof.Proof.KernelIdeal.StepLast
public import Idealize.ShloMosaic.Lib.Pipeline.TableIdle

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the windows are idle, and where they are written back -/

/-- The inputs are read at every point. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- The three results of the product are written at the last point only, and written back there. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel
/-- The codes and scales of the activations are written at the first point, and written back at the last. -/
theorem liveAt0_7 : ∀ t : Fin cfg0.N, cond0_0 (grid0.coords t) → cfg0.idle 7 (grid0.coords t) = false := by decide +kernel
theorem idleAt0_7 : ∀ t : Fin cfg0.N, ¬cond0_0 (grid0.coords t) → cfg0.idle 7 (grid0.coords t) = true := by decide +kernel
theorem noFlush0_7 : ∀ t : Fin cfg0.N, ¬cond0_1 (grid0.coords t) → (cfg0.win 7).flush t = false := by decide +kernel
theorem flush0_7_last : ∀ t : Fin cfg0.N, cond0_1 (grid0.coords t) → (cfg0.win 7).flush t = true := by decide +kernel
/-- Whether the window's buffer holds nothing the body stored, position by position: only before the first point and
    after the last. -/
def freshTab0_7 : ℕ → Bool
  | 0 => true
  | n + 1 => (0x8000 : ℕ).testBit n
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
theorem notFresh0_7 : ∀ t : Fin cfg0.N, ¬cond0_0 (grid0.coords t) → cfg0.fresh 7 t.val = false := by
  intro t; rw [fresh0_7_eq t]; revert t; decide +kernel
/-- The scales, as the codes. -/
theorem liveAt0_8 : ∀ t : Fin cfg0.N, cond0_0 (grid0.coords t) → cfg0.idle 8 (grid0.coords t) = false := by decide +kernel
theorem idleAt0_8 : ∀ t : Fin cfg0.N, ¬cond0_0 (grid0.coords t) → cfg0.idle 8 (grid0.coords t) = true := by decide +kernel
theorem noFlush0_8 : ∀ t : Fin cfg0.N, ¬cond0_1 (grid0.coords t) → (cfg0.win 8).flush t = false := by decide +kernel
theorem flush0_8_last : ∀ t : Fin cfg0.N, cond0_1 (grid0.coords t) → (cfg0.win 8).flush t = true := by decide +kernel
/-- Whether the window's buffer holds nothing the body stored, position by position: only before the first point and
    after the last. -/
def freshTab0_8 : ℕ → Bool
  | 0 => true
  | n + 1 => (0x8000 : ℕ).testBit n
theorem freshTab0_8_step : ∀ t : Fin cfg0.N,
    freshTab0_8 (t.val + 1) = ((cfg0.win 8).flush t || (cfg0.idle 8 (cfg0.grid.coords t) && freshTab0_8 t.val)) := by decide +kernel
theorem fresh0_8_eq (t : Fin cfg0.N) : cfg0.fresh 8 t.val = freshTab0_8 t.val :=
  Pipeline.Cfg.fresh_tab cfg0 8 freshTab0_8 rfl freshTab0_8_step t.val (Nat.le_of_lt t.isLt)
theorem notFresh0_8 : ∀ t : Fin cfg0.N, ¬cond0_0 (grid0.coords t) → cfg0.fresh 8 t.val = false := by
  intro t; rw [fresh0_8_eq t]; revert t; decide +kernel

/-! ## The memrefs the body is called with -/

/-- The buffers that a point's body is given, one after the other, and that each is whole. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x8192 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .smem S1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x2048 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1 .f32 := win0_8.stage (cfg0.slots t 8)
abbrev hs0_8 (t : Fin cfg0.N) : (ms0_8 t).IsWhole := hstage0_8 ((cfg0.slots t 8).cast nbuf0_8)
/-- The scratch product. -/
abbrev scM0_0 : Memref sig .tc .vmem S16x1024x512 .f32 := Memref.whole cc0_scratch0
/-- The scratch maxima. -/
abbrev scM0_1 : Memref sig .tc .vmem S8x512 .f32 := Memref.whole cc0_scratch1

/-- The launch's invariant with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- A point's coordinate is its number. -/
theorem coords_val (t : Fin cfg0.N) : (grid0.coords t 0).val = t.val := by
  have ht : t.val < 16 := Nat.lt_of_lt_of_eq t.isLt N_0
  have e0 : (grid0.coords t 0).val = t.val / 1 % 16 := Pipeline.Grid.coords_val t 0 (by decide) rfl
  omega

/-! ## What the buffers hold -/

/-- Point `k`, counted round. -/
def pt (k : ℕ) : Fin cfg0.N := ⟨k % 16, by rw [show cfg0.N = 16 from N_0]; omega⟩

/-- A point is the one with its number. -/
theorem pt_val (t : Fin cfg0.N) : pt t.val = t :=
  Fin.ext (Nat.mod_eq_of_lt (Nat.lt_of_lt_of_eq t.isLt N_0))

/-- The activations and the gain as the first point finds them, the weight and scale blocks of point `k`. -/
def X0 (c : Dev nD) : Vec F S1024x2048 .bf16 := iblk m c 0 (pt 0)
/-- The gain. -/
def G0 (c : Dev nD) : Vec F S1x2048 .f32 := iblk m c 1 (pt 0)
/-- The weight codes of column block `k`. -/
def W (c : Dev nD) (k : ℕ) : Vec F S2048x512 .fp8e4m3 := iblk m c 2 (pt k)
/-- The weight scales of column block `k`. -/
def Sc (c : Dev nD) (k : ℕ) : Vec F S1x512 .f32 := iblk m c 3 (pt k)

/-- The activations' codes and scales. -/
def XC (c : Dev nD) : Vec F S1024x2048 .fp8e4m3 := xcF (X0 m c) (G0 m c)
/-- The activations' scales. -/
def XS (c : Dev nD) : Vec F S1024x1 .f32 := xsF (X0 m c) (G0 m c)

/-- The product's column block of point `k`. -/
def yB (c : Dev nD) (k : ℕ) : Vec F S1x1024x512 .f32 := yF (XC m c) (W m c k) (XS m c) (Sc m c k)

/-- The running maximum after point `n`. -/
def amAt (c : Dev nD) : ℕ → Vec F S8x512 .f32
  | 0 => amF (XC m c) (W m c 0) (XS m c) (Sc m c 0) am0F
  | n + 1 => amF (XC m c) (W m c (n + 1)) (XS m c) (Sc m c (n + 1)) (amAt c n)

/-- The scratch after point `n`, from `y0` before the first. -/
def yAt (c : Dev nD) (y0 : Vec F S16x1024x512 .f32) : ℕ → Vec F S16x1024x512 .f32
  | 0 => yPut 0 y0 (yB m c 0)
  | n + 1 => yPut (n + 1) (yAt c y0 n) (yB m c (n + 1))

/-- After step `n` every column block up to `n` of the scratch product is the product's. -/
theorem yAt_plane (c : Dev nD) (y0 : Vec F S16x1024x512 .f32) (n : ℕ) (k : Fin 16) (hk : k.val ≤ n) :
    plane k (yAt m c y0 n) = yB m c k.val := by
  have hput : ∀ (y : Vec F S16x1024x512 .f32) (b : Vec F S1x1024x512 .f32), plane k (yPut k.val y b) = b := by
    intro y b
    funext z
    have hz : (z 0).val < 1 := (z 0).isLt
    show (if k.val = k.val then b (ix3 (0 : Fin 1) (z 1) (z 2)) else _) = b z
    rw [if_pos rfl]
    refine congrArg b (funext fun a => Fin.ext ?_)
    match a with
    | ⟨0, _⟩ => show 0 = (z 0).val; omega
    | ⟨1, _⟩ => rfl
    | ⟨2, _⟩ => rfl
  have hmiss : ∀ (n : ℕ) (y : Vec F S16x1024x512 .f32) (b : Vec F S1x1024x512 .f32), k.val ≠ n → plane k (yPut n y b) = plane k y := by
    intro n y b h
    funext z
    show (if k.val = n then _ else y (ix3 k (z 1) (z 2))) = _
    rw [if_neg h]; rfl
  induction n with
  | zero =>
    have e : k.val = 0 := by omega
    show plane k (yPut 0 y0 (yB m c 0)) = _
    rw [← e]; exact hput _ _
  | succ n ih =>
    show plane k (yPut (n + 1) (yAt m c y0 n) (yB m c (n + 1))) = _
    by_cases e : k.val = n + 1
    · rw [← e]; exact hput _ _
    · rw [hmiss _ _ _ e]; exact ih (by omega)

/-- The product's codes, block by block, from the running maximum at the end. -/
def YC (c : Dev nD) : Vec F S1024x8192 .fp8e4m3 := fun z =>
  codesY (yinvF (amAt m c 15)) (yB m c ((z 1).val / 512)) (ix2 (z 0) ⟨(z 1).val % 512, by omega⟩)

/-- After the last step the codes made from the scratch product are the product's codes. -/
theorem ycF_yAt (c : Dev nD) (y0 : Vec F S16x1024x512 .f32) : ycF (yAt m c y0 15) (amAt m c 15) = YC m c := by
  funext z
  show codesY _ (plane _ (yAt m c y0 15)) _ = _
  rw [yAt_plane m c y0 15 _ (Nat.le_of_lt_succ (Fin.isLt _))]; rfl

/-- The product's scale and its largest entry. -/
def YS (c : Dev nD) : Vec F S1x1 .f32 := fun _ => yscF (amAt m c 15)
/-- The product's largest magnitude. -/
def YM (c : Dev nD) : Vec F S1x1 .f32 := fun _ => amaxF (amAt m c 15)

/-- What is known between points: before the first nothing; afterwards the scratch and the running maximum. -/
def PhiS (c : Dev nD) : (n : ℕ) → n ≤ cfg0.N → sProp 𝕄
  | 0, _ => Pipeline.ΦA spec0 c
  | n + 1, _ => iprop(iprop((∃ y0, owns (c : Thread nD τ) scM0_0 fullShare (yAt m c y0 n)) ∗ owns (c : Thread nD τ) scM0_1 fullShare (amAt m c n)) ∗ (∃ r, prngReg c r))

/-- Before the first step the scratch holds anything. -/
theorem PhiS_zero (c : Dev nD) (n : ℕ) (h : n ≤ cfg0.N) (hz : n = 0) : PhiS m c n h = Pipeline.ΦA spec0 c := by
  subst hz; rfl

/-- After step `n` it holds what `yAt` and `amAt` say. -/
theorem PhiS_succ (c : Dev nD) (n : ℕ) (hn : n + 1 ≤ cfg0.N) :
    PhiS m c (n + 1) hn = iprop(iprop((∃ y0, owns (c : Thread nD τ) scM0_0 fullShare (yAt m c y0 n)) ∗ owns (c : Thread nD τ) scM0_1 fullShare (amAt m c n)) ∗ (∃ r, prngReg c r)) := rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => YC m c
    | ⟨5, _⟩ => YS m c
    | ⟨6, _⟩ => YM m c
    | ⟨7, _⟩ => XC m c
    | ⟨8, _⟩ => XS m c
  Φ t := PhiS m c t.val (Nat.le_of_lt_succ t.isLt)
  q _ := fullShare
  owed _ := 0

/-- The proof data's arrays are those at the region's entry. -/
theorem A_eq (c : Dev nD) (w : Fin cfg0.W) : (dats m 0 c).A w = V m c (Pipeline.arrRef spec0 w) := by
  dsimp only [dats]

/-- The proof data's scratch before a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What each buffer holds after a point. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = YC m c := by dsimp only [dats]
theorem after0_5 (c : Dev nD) (t : Fin cfg0.N) : (dats m 0 c).after 5 t = YS m c := by dsimp only [dats]
theorem after0_6 (c : Dev nD) (t : Fin cfg0.N) : (dats m 0 c).after 6 t = YM m c := by dsimp only [dats]
theorem after0_7 (c : Dev nD) (t : Fin cfg0.N) : (dats m 0 c).after 7 t = XC m c := by dsimp only [dats]
theorem after0_8 (c : Dev nD) (t : Fin cfg0.N) : (dats m 0 c).after 8 t = XS m c := by dsimp only [dats]
/-- What each input buffer holds before a point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- After the first point the buffer holds what that point left. -/
theorem before0_7 (c : Dev nD) (t : Fin cfg0.N) (h0 : ¬cond0_0 (grid0.coords t)) (d) : (dats m 0 c).before 7 t d = XC m c := by
  rw [Dat.before_out_traj _ 7 rfl (fun _ _ => rfl) (fun t _ _ _ => by rw [after0_7, after0_7]) t.val t rfl d,
    if_neg (by rw [notFresh0_7 t h0]; exact Bool.false_ne_true)]
  exact after0_7 m c _
/-- After the first point the buffer holds what that point left. -/
theorem before0_8 (c : Dev nD) (t : Fin cfg0.N) (h0 : ¬cond0_0 (grid0.coords t)) (d) : (dats m 0 c).before 8 t d = XS m c := by
  rw [Dat.before_out_traj _ 8 rfl (fun _ _ => rfl) (fun t _ _ _ => by rw [after0_8, after0_8]) t.val t rfl d,
    if_neg (by rw [notFresh0_8 t h0]; exact Bool.false_ne_true)]
  exact after0_8 m c _

end Cert.KernelIdeal.Hand

end
-- ==== Proof.KernelIdeal.Run.lean ====
module

public import proofs.«01_k».proof.Proof.KernelIdeal.Data
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val = 0
  · have hc0 : cond0_0 (grid0.coords t) := (hcond0_0 t).mpr h0
    have hc1 : ¬cond0_1 (grid0.coords t) := fun h => by have := (hcond0_1 t).mp h; omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [Dat.leavesExact_idle (dats m 0 c) 4 t (idleAt0_4 t hc1) (noFlush0_4 t hc1)]
    rw [Dat.leavesExact_idle (dats m 0 c) 5 t (idleAt0_5 t hc1) (noFlush0_5 t hc1)]
    rw [Dat.leavesExact_idle (dats m 0 c) 6 t (idleAt0_6 t hc1) (noFlush0_6 t hc1)]
    rw [show (dats m 0 c).leavesExact 7 t = owns (c : Thread nD τ) (ms0_7 t) fullShare ((dats m 0 c).after 7 t) from by
      unfold Dat.leavesExact; rw [liveAt0_7 t hc0], after0_7]
    rw [show (dats m 0 c).leavesExact 8 t = owns (c : Thread nD τ) (ms0_8 t) fullShare ((dats m 0 c).after 8 t) from by
      unfold Dat.leavesExact; rw [liveAt0_8 t hc0], after0_8]
    rw [PhiS_castSucc m c t, PhiS_zero m c _ _ h0, PhiA0_eq]
    have e0 : iblk m c 0 t = X0 m c := by unfold X0; rw [← h0, pt_val]
    have e1 : iblk m c 1 t = G0 m c := by unfold G0; rw [← h0, pt_val]
    have eW : iblk m c 2 t = W m c 0 := by unfold W; rw [← h0, pt_val]
    have eS : iblk m c 3 t = Sc m c 0 := by unfold Sc; rw [← h0, pt_val]
    have ei : (grid0.coords t 0).val = 0 := (coords_val t).trans h0
    have ex : xcF (iblk m c 0 t) (iblk m c 1 t) = XC m c := by rw [e0, e1]; rfl
    have es : xsF (iblk m c 0 t) (iblk m c 1 t) = XS m c := by rw [e0, e1]; rfl
    iintro ⟨⟨⟨⟨%y0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have ey : yPut (grid0.coords t 0).val y0 (yF (xcF (iblk m c 0 t) (iblk m c 1 t)) (iblk m c 2 t) (xsF (iblk m c 0 t) (iblk m c 1 t)) (iblk m c 3 t)) = yAt m c y0 t.val := by rw [ei, ex, es, eW, eS, h0]; rfl
    have ea : amF (xcF (iblk m c 0 t) (iblk m c 1 t)) (iblk m c 2 t) (xsF (iblk m c 0 t) (iblk m c 1 t)) (iblk m c 3 t) am0F = amAt m c t.val := by rw [ex, es, eW, eS, h0]; rfl
    iapply (stepA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk m c 0 t) (iblk m c 1 t) (iblk m c 2 t) (iblk m c 3 t) _ _ _ y0 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    try rw [ey]
    try rw [ea]
    try rw [ex, es]
    isplitl [HS0 HS1 Hg]
    · isplitl [HS0 HS1]
      · isplitl [HS0]
        · iexists y0; iexact HS0
        iexact HS1
      iexact Hg
    isplitl [Ho]; · iexact Ho
    isplitl [H0]; · iexact H0
    isplitl [H1]; · iexact H1
    isplitl [H2]; · iexact H2
    isplitl [H3]; · iexact H3
    isplitl [H4]; · iexists d4; iexact H4
    isplitl [H5]; · iexists d5; iexact H5
    isplitl [H6]; · iexists d6; iexact H6
    isplitl [H7]; · iexact H7
    iexact H8
  have hc0 : ¬cond0_0 (grid0.coords t) := fun h => h0 ((hcond0_0 t).mp h)
  by_cases h1 : t.val = 15
  · have hc1 : cond0_1 (grid0.coords t) := (hcond0_1 t).mpr h1
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t hc1], after0_4]
    rw [show (dats m 0 c).leavesExact 5 t = owns (c : Thread nD τ) (ms0_5 t) fullShare ((dats m 0 c).after 5 t) from by
      unfold Dat.leavesExact; rw [liveAt0_5 t hc1], after0_5]
    rw [show (dats m 0 c).leavesExact 6 t = owns (c : Thread nD τ) (ms0_6 t) fullShare ((dats m 0 c).after 6 t) from by
      unfold Dat.leavesExact; rw [liveAt0_6 t hc1], after0_6]
    rw [show (dats m 0 c).leavesExact 7 t = owns (c : Thread nD τ) (ms0_7 t) fullShare ((dats m 0 c).after 7 t) from by
      unfold Dat.leavesExact; rw [idleAt0_7 t hc0, flush0_7_last t hc1], after0_7]
    rw [show (dats m 0 c).leavesExact 8 t = owns (c : Thread nD τ) (ms0_8 t) fullShare ((dats m 0 c).after 8 t) from by
      unfold Dat.leavesExact; rw [idleAt0_8 t hc0, flush0_8_last t hc1], after0_8]
    simp only [before0_7 m c t hc0, before0_8 m c t hc0]
    obtain ⟨n, hn⟩ : ∃ n, t.val = n + 1 := ⟨t.val - 1, by omega⟩
    rw [PhiS_castSucc m c t, show PhiS m c t.val (Nat.le_of_lt t.isLt) = PhiS m c (n + 1) (by omega) from by congr 1, PhiS_succ]
    have eW : iblk m c 2 t = W m c (n + 1) := by unfold W; rw [← hn, pt_val]
    have eS : iblk m c 3 t = Sc m c (n + 1) := by unfold Sc; rw [← hn, pt_val]
    have ei : (grid0.coords t 0).val = n + 1 := (coords_val t).trans hn
    iintro ⟨⟨⟨⟨%y0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have ey : yPut (grid0.coords t 0).val (yAt m c y0 n) (yF (XC m c) (iblk m c 2 t) (XS m c) (iblk m c 3 t)) = yAt m c y0 t.val := by rw [ei, eW, eS, hn]; rfl
    have ea : amF (XC m c) (iblk m c 2 t) (XS m c) (iblk m c 3 t) (amAt m c n) = amAt m c t.val := by rw [eW, eS, hn]; rfl
    iapply (stepC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk m c 0 t) (iblk m c 1 t) (iblk m c 2 t) (iblk m c 3 t) (XC m c) (XS m c) (yAt m c y0 n) (amAt m c n) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    rw [ey, ea]
    rw [show t.val = 15 from h1, ycF_yAt]
    isplitl [HS0 HS1 Hg]
    · isplitl [HS0 HS1]
      · isplitl [HS0]
        · iexists y0; iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc1 : ¬cond0_1 (grid0.coords t) := fun h => h1 ((hcond0_1 t).mp h)
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [Dat.leavesExact_idle (dats m 0 c) 4 t (idleAt0_4 t hc1) (noFlush0_4 t hc1)]
    rw [Dat.leavesExact_idle (dats m 0 c) 5 t (idleAt0_5 t hc1) (noFlush0_5 t hc1)]
    rw [Dat.leavesExact_idle (dats m 0 c) 6 t (idleAt0_6 t hc1) (noFlush0_6 t hc1)]
    rw [Dat.leavesExact_idle (dats m 0 c) 7 t (idleAt0_7 t hc0) (noFlush0_7 t hc1)]
    rw [Dat.leavesExact_idle (dats m 0 c) 8 t (idleAt0_8 t hc0) (noFlush0_8 t hc1)]
    simp only [before0_7 m c t hc0, before0_8 m c t hc0]
    obtain ⟨n, hn⟩ : ∃ n, t.val = n + 1 := ⟨t.val - 1, by omega⟩
    rw [PhiS_castSucc m c t, show PhiS m c t.val (Nat.le_of_lt t.isLt) = PhiS m c (n + 1) (by omega) from by congr 1, PhiS_succ]
    have eW : iblk m c 2 t = W m c (n + 1) := by unfold W; rw [← hn, pt_val]
    have eS : iblk m c 3 t = Sc m c (n + 1) := by unfold Sc; rw [← hn, pt_val]
    have ei : (grid0.coords t 0).val = n + 1 := (coords_val t).trans hn
    iintro ⟨⟨⟨⟨%y0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have ey : yPut (grid0.coords t 0).val (yAt m c y0 n) (yF (XC m c) (iblk m c 2 t) (XS m c) (iblk m c 3 t)) = yAt m c y0 t.val := by rw [ei, eW, eS, hn]; rfl
    have ea : amF (XC m c) (iblk m c 2 t) (XS m c) (iblk m c 3 t) (amAt m c n) = amAt m c t.val := by rw [eW, eS, hn]; rfl
    iapply (stepB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk m c 0 t) (iblk m c 1 t) (iblk m c 2 t) (iblk m c 3 t) _ _ _ (XC m c) (XS m c) (yAt m c y0 n) (amAt m c n) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    rw [ey, ea]
    isplitl [HS0 HS1 Hg]
    · isplitl [HS0 HS1]
      · isplitl [HS0]
        · iexists y0; iexact HS0
        iexact HS1
      iexact Hg
    isplitl [Ho]; · iexact Ho
    isplitl [H0]; · iexact H0
    isplitl [H1]; · iexact H1
    isplitl [H2]; · iexact H2
    isplitl [H3]; · iexact H3
    isplitl [H4]; · iexists d4; iexact H4
    isplitl [H5]; · iexists d5; iexact H5
    isplitl [H6]; · iexists d6; iexact H6
    isplitl [H7]; · iexists d7; iexact H7
    iexists d8; iexact H8

/-- The region's body at a point is the printed body. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The run starts with the scratch holding anything. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- It ends so. -/
theorem hout (c : Dev nD) : (dats m 0 c).Φ (Fin.last cfg0.N) ⊢ Pipeline.ΦA spec0 c := by
  rw [show (dats m 0 c).Φ (Fin.last cfg0.N) = PhiS m c (15 + 1) (by rw [show cfg0.N = 16 from N_0]) from rfl, PhiS_succ, PhiA0_eq]
  iintro ⟨⟨⟨%y0, HS0⟩, HS1⟩, Hg⟩
  isplitl [HS0 HS1]
  · isplitl [HS0]
    · iexists _; iexact HS0
    iexists _; iexact HS1
  iexact Hg

set_option backward.isDefEq.respectTransparency.types false in
/-- The launch: every array ends at what the proof data says, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The whole program runs, and its buffers end as the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.KernelIdeal.Final.lean ====
module

public import proofs.«01_k».proof.Proof.KernelIdeal.Run
public import Idealize.ShloMosaic.Lib.Pipeline.ValueKit

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal.Gen

variable {F : FTy → Type} [FloatOps F]

variable (m : (ℓ : Loc nD τ sig) → Buf (Elt F) ℓ) (ρ : Dev nD → PrngReg)

/-! ## The result arrays after the run

Each is written back once, whole, after the last point. -/

/-- The last point. -/
def tl : Fin cfg0.N := ⟨15, by rw [show cfg0.N = 16 from N_0]; omega⟩

/-- The product's codes. -/
theorem final4 (c : Dev nD) : (dats m 0 c).arrAt 4 cfg0.N = YC m c := by
  refine (dats m 0 c).arrAt_eq_of_after_last 4 tl (by decide +kernel) _ fun j => ?_
  blk_simp
  rw [after0_4]

/-- The product's scale. -/
theorem final5 (c : Dev nD) : (dats m 0 c).arrAt 5 cfg0.N = YS m c := by
  refine (dats m 0 c).arrAt_eq_of_after_last 5 tl (by decide +kernel) _ fun j => ?_
  blk_simp
  rw [after0_5]

/-- The product's largest magnitude. -/
theorem final6 (c : Dev nD) : (dats m 0 c).arrAt 6 cfg0.N = YM m c := by
  refine (dats m 0 c).arrAt_eq_of_after_last 6 tl (by decide +kernel) _ fun j => ?_
  blk_simp
  rw [after0_6]

/-- The activations' codes. -/
theorem final7 (c : Dev nD) : (dats m 0 c).arrAt 7 cfg0.N = XC m c := by
  refine (dats m 0 c).arrAt_eq_of_after_last 7 tl (by decide +kernel) _ fun j => ?_
  blk_simp
  rw [after0_7]

/-- The activations' scales. -/
theorem final8 (c : Dev nD) : (dats m 0 c).arrAt 8 cfg0.N = XS m c := by
  refine (dats m 0 c).arrAt_eq_of_after_last 8 tl (by decide +kernel) _ fun j => ?_
  blk_simp
  rw [after0_8]

/-- The run with the results named and the arguments unchanged. -/
theorem run_results : θ_run defs (onTc (τ := τ) (main (F := F))) ⟨m, fun _ => 0, ρ⟩ fun r => ∀ c : Dev nD,
      r.2.mem ((c : Thread nD τ).loc main_v3_0) = YC m c
      ∧ r.2.mem ((c : Thread nD τ).loc main_v3_1) = YS m c
      ∧ r.2.mem ((c : Thread nD τ).loc main_v3_2) = YM m c
      ∧ r.2.mem ((c : Thread nD τ).loc main_v3_3) = XC m c
      ∧ r.2.mem ((c : Thread nD τ).loc main_v3_4) = XS m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final4 m c),
      ((h c).1 5).trans (final5 m c),
      ((h c).1 6).trans (final6 m c),
      ((h c).1 7).trans (final7 m c),
      ((h c).1 8).trans (final8 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.KernelIdeal.Hand

end
-- ==== Proof.Maths.Scale.lean ====
module

public import Idealize.ShloMosaic.PureOps.Ideal
public import Idealize.ShloMosaic.Lib.Pointwise

@[expose] public section

set_option maxRecDepth 16384

noncomputable section

namespace Cert.Maths

open Idealize.ShloMosaic

/-! ## Powers of two by their exponent field -/

/-- The value whose bits are the exponent field `n` alone. -/
def P (n : ℕ) : EReal := Ideal.ofBits .f32 (BitVec.ofNat 32 n <<< 23)

/-- Exponent, fraction and sign of the pattern `n · 2^23`, for every field `n`. -/
theorem fields : ∀ n : Fin 256, ((BitVec.ofNat 32 n.val <<< 23).extractLsb' 23 8).toNat = n.val
    ∧ ((BitVec.ofNat 32 n.val <<< 23).extractLsb' 0 23).toNat = 0
    ∧ ((BitVec.ofNat 32 n.val <<< 23).extractLsb' 31 1 == 1#1) = false := by decide +kernel

/-- Field 0 reads as 0. -/
theorem P_of_zero (n : ℕ) (hn : n = 0) : P n = 0 := by
  obtain ⟨h1, h2, h3⟩ := fields ⟨n, by omega⟩
  dsimp only at h1 h2 h3
  show Ideal.ieee 8 23 _ = _
  unfold Ideal.ieee
  have e0 : n ≠ 2 ^ 8 - 1 := by omega
  simp only [h1, h2, h3, if_neg e0, if_pos hn]
  norm_num

/-- Field 0 reads as 0. -/
theorem P_zero : P 0 = 0 := P_of_zero 0 rfl

/-- A field from 1 to 254 reads as a power of two. -/
theorem P_mid (n : ℕ) (hn : 1 ≤ n) (hn' : n ≤ 254) : P n = (((2 : ℝ) ^ ((n : ℤ) - 127) : ℝ) : EReal) := by
  obtain ⟨h1, h2, h3⟩ := fields ⟨n, by omega⟩
  dsimp only at h1 h2 h3
  show Ideal.ieee 8 23 _ = _
  unfold Ideal.ieee
  have e0 : n ≠ 2 ^ 8 - 1 := by omega
  have e1 : n ≠ 0 := by omega
  simp only [h1, h2, h3, if_neg e0, if_neg e1, Nat.reduceAdd, Bool.false_eq_true, if_false]
  have e : ((2 : ℝ) ^ ((n : ℤ) - 127) : ℝ) = 1 * ((2 ^ 23 + 0 : ℕ) : ℝ) * (2 : ℝ) ^ ((n : ℤ) - (2 ^ (8 - 1) - 1) - (23 : ℕ)) := by
    have : ((n : ℤ) - 127) = 23 + ((n : ℤ) - (2 ^ (8 - 1) - 1) - (23 : ℕ)) := by norm_num
    rw [this, zpow_add₀ (by norm_num : (2 : ℝ) ≠ 0)]
    norm_num
  rw [e]

/-- It is positive. -/
theorem P_pos (n : ℕ) (hn : 1 ≤ n) (hn' : n ≤ 254) : 0 < P n := by
  rw [P_mid n hn hn']; exact_mod_cast zpow_pos (by norm_num : (0 : ℝ) < 2) _

/-- Field 255 reads as infinity. -/
theorem P_of_top (n : ℕ) (hn : n = 255) : P n = ⊤ := by
  obtain ⟨h1, h2, h3⟩ := fields ⟨n, by omega⟩
  dsimp only at h1 h2 h3
  show Ideal.ieee 8 23 _ = _
  unfold Ideal.ieee
  have e0 : n = 2 ^ 8 - 1 := by omega
  simp only [h1, h2, h3, if_pos e0, Nat.reduceAdd, Bool.false_eq_true, if_false, if_true]

/-- Field 255 reads as infinity. -/
theorem P_top : P 255 = ⊤ := P_of_top 255 rfl

/-- Larger powers have larger fields. -/
theorem P_le {a b : ℕ} (h : P a ≤ P b) (ha : 1 ≤ a) (hb : 1 ≤ b) (ha' : a ≤ 254) (hb' : b ≤ 254) : a ≤ b := by
  rw [P_mid a ha ha', P_mid b hb hb', EReal.coe_le_coe_iff] at h
  have := (zpow_le_zpow_iff_right₀ (by norm_num : (1 : ℝ) < 2)).mp h
  omega

/-- Field 127 reads as 1. -/
theorem P_one : P 127 = 1 := by
  rw [P_mid 127 (by norm_num) (by norm_num)]; norm_num

/-- Field 128 reads as 2. -/
theorem P_two : P 128 = ((2 : ℝ) : EReal) := by
  rw [P_mid 128 (by norm_num) (by norm_num)]; norm_num

/-- A constant whose bits are `n · 2^23` reads as the power with field `n`. -/
theorem bits_P (n : ℕ) (b : BitVec 32) (h : b = BitVec.ofNat 32 n <<< 23) : Ideal.ofBits .f32 b = P n := by
  subst h; rfl

/-- The least normal value is the power with field 1. -/
theorem bits_lo : Ideal.ofBits .f32 0x00800000#32 = P 1 := bits_P _ _ (by decide)
/-- The bound `2^120` is the power with field 247. -/
theorem bits_hi : Ideal.ofBits .f32 0x7B800000#32 = P 247 := bits_P _ _ (by decide)
/-- The constant 2, as a power. -/
theorem bits_two : Ideal.ofBits .f32 0x40000000#32 = P 128 := bits_P _ _ (by decide)
/-- The constant 1. -/
theorem bits_one : Ideal.ofBits .f32 0x3F800000#32 = 1 := (bits_P 127 _ (by decide)).trans P_one

/-- The constant 0. -/
theorem bits_P_zero : Ideal.ofBits .f32 0x00000000#32 = 0 := (bits_P 0 _ (by decide)).trans P_zero

/-! ## The search for the exponent field -/

/-- One comparison of the search. -/
def stepS (x : EReal) (k e : BitVec 32) : BitVec 32 :=
  if Ideal.ofBits .f32 (IntOp.shli ArithUnit.vector (IntOp.addi e k) 23#32) ≤ x then IntOp.addi e k else e

/-- The field found. -/
def fieldS (x : EReal) : BitVec 32 :=
  if x < Ideal.ofBits .f32 0x7B800000#32 then
    stepS x 1#32 (stepS x 2#32 (stepS x 4#32 (stepS x 8#32 (stepS x 16#32 (stepS x 32#32 (stepS x 64#32 (stepS x 128#32 0#32)))))))
  else 255#32

/-- The field that the scale is made from: 126 where the value's field is 0 or 255. -/
def biasS (x : EReal) : BitVec 32 :=
  Scalar.select (IntOp.ori (IntOp.cmpi CmpIPredicate.eq (fieldS x) 0#32) (IntOp.cmpi CmpIPredicate.eq (fieldS x) 255#32))
    126#32 (fieldS x)

/-- The scale and the inverse scale the fields make. -/
def scaleK (x : EReal) : EReal := Ideal.ofBits .f32 (IntOp.shli ArithUnit.vector (IntOp.addi (biasS x) 1#32) 23#32)
/-- The kernel's inverse of the scale. -/
def invK (x : EReal) : EReal := Ideal.ofBits .f32 (IntOp.shli ArithUnit.vector (IntOp.subi 253#32 (biasS x)) 23#32)

/-- Bits shifted into the exponent read as the power with that field. -/
theorem shl_P (n : ℕ) : Ideal.ofBits .f32 (IntOp.shli ArithUnit.vector (BitVec.ofNat 32 n) 23#32) = P n := rfl

/-- What the search knows when candidates below `n + w` remain. -/
def Inv (x : EReal) (w n : ℕ) : Prop := n + w ≤ 256 ∧ (n = 0 ∨ P n ≤ x) ∧ (n + w = 256 ∨ x < P (n + w))

/-- One step of the search halves the interval that holds the field. -/
theorem step_inv (x : EReal) (k n : ℕ) (h : Inv x (2 * k) n) :
    ∃ n', stepS x (BitVec.ofNat 32 k) (BitVec.ofNat 32 n) = BitVec.ofNat 32 n' ∧ Inv x k n' := by
  obtain ⟨h1, h2, h3⟩ := h
  have e : IntOp.addi (BitVec.ofNat 32 n) (BitVec.ofNat 32 k) = BitVec.ofNat 32 (n + k) := by
    show BitVec.ofNat 32 n + BitVec.ofNat 32 k = _
    rw [BitVec.ofNat_add]
  unfold stepS
  rw [e, shl_P]
  by_cases hx : P (n + k) ≤ x
  · rw [if_pos hx]
    refine ⟨n + k, rfl, by omega, Or.inr hx, ?_⟩
    rw [show n + k + k = n + 2 * k by omega]; exact h3
  · rw [if_neg hx]
    exact ⟨n, rfl, by omega, h2, Or.inr (not_le.mp hx)⟩

/-- Below `2^120` the search finds the field of the largest power that is not above the value. -/
theorem field_spec (x : EReal) (hx : x < P 247) :
    ∃ n, fieldS x = BitVec.ofNat 32 n ∧ Inv x 1 n := by
  unfold fieldS
  rw [bits_hi, if_pos hx]
  obtain ⟨n0, e0, i0⟩ := step_inv x 128 0 ⟨by omega, Or.inl rfl, Or.inl rfl⟩
  obtain ⟨n1, e1, i1⟩ := step_inv x 64 n0 i0
  obtain ⟨n2, e2, i2⟩ := step_inv x 32 n1 i1
  obtain ⟨n3, e3, i3⟩ := step_inv x 16 n2 i2
  obtain ⟨n4, e4, i4⟩ := step_inv x 8 n3 i3
  obtain ⟨n5, e5, i5⟩ := step_inv x 4 n4 i4
  obtain ⟨n6, e6, i6⟩ := step_inv x 2 n5 i5
  obtain ⟨n7, e7, i7⟩ := step_inv x 1 n6 i6
  exact ⟨n7, by rw [e0, e1, e2, e3, e4, e5, e6, e7], i7⟩

/-- Below `2^120` the field is 0 under the smallest normal, else that of the power of two just below. -/
theorem field_cases (x : EReal) (hx : x < P 247) :
    (fieldS x = 0#32 ∧ x < P 1) ∨ ∃ n, 1 ≤ n ∧ n ≤ 246 ∧ fieldS x = BitVec.ofNat 32 n ∧ P n ≤ x ∧ x < P (n + 1) := by
  obtain ⟨n, e, h1, h2, h3⟩ := field_spec x hx
  rcases Nat.eq_zero_or_pos n with h0 | h0
  · subst h0
    refine Or.inl ⟨e, ?_⟩
    rcases h3 with h3 | h3
    · omega
    · exact h3
  · have hP : P n ≤ x := h2.resolve_left (by omega)
    have hlt : P n < P 247 := lt_of_le_of_lt hP hx
    have hn : n ≤ 254 := by
      by_contra hc
      have : n = 255 := by omega
      rw [this, P_top] at hlt
      exact absurd hlt (not_lt.mpr le_top)
    have hn2 : n ≤ 247 := P_le hlt.le h0 (by omega) hn (by omega)
    have hn3 : n ≠ 247 := by rintro rfl; exact lt_irrefl _ hlt
    exact Or.inr ⟨n, h0, by omega, e, hP, h3.resolve_left (by omega)⟩

/-! ## The exponent by logarithm -/

/-- The scale's exponent as the reference takes it. -/
def expS (x : EReal) : EReal :=
  if P 1 ≤ x ∧ x < P 247 then Ideal.liftRound Int.floor (Ideal.div (Ideal.log x) (Ideal.log (P 128))) + 1 else 0

/-- The power-of-two scale and its inverse. -/
def scaleS (x : EReal) : EReal := Ideal.exp2 (expS x)
/-- The reference's inverse of the scale. -/
def invS (x : EReal) : EReal := Ideal.exp2 (0 - expS x)

/-- `exp2` of an integer is that power of two. -/
theorem exp2_int (z : ℤ) : Ideal.exp2 (((z : ℝ) : ℝ) : EReal) = (((2 : ℝ) ^ z : ℝ) : EReal) := by
  show ((Real.rpow 2 (z : ℝ) : ℝ) : EReal) = _
  rw [show Real.rpow 2 (z : ℝ) = (2 : ℝ) ^ (z : ℝ) from rfl, Real.rpow_intCast]

/-- Between two neighbouring powers the reference's exponent is the field less 126. -/
theorem expS_mid (x : EReal) (n : ℕ) (h1 : 1 ≤ n) (h2 : n ≤ 246) (hx : P n ≤ x) (hx' : x < P (n + 1)) :
    expS x = ((((n : ℤ) - 126 : ℤ) : ℝ) : EReal) := by
  have hlo : P 1 ≤ x := by
    refine le_trans ?_ hx
    rw [P_mid 1 (by omega) (by omega), P_mid n h1 (by omega), EReal.coe_le_coe_iff]
    exact zpow_le_zpow_right₀ (by norm_num) (by omega)
  have hhi : x < P 247 := by
    refine lt_of_lt_of_le hx' ?_
    rw [P_mid 247 (by omega) (by omega), P_mid (n + 1) (by omega) (by omega), EReal.coe_le_coe_iff]
    exact zpow_le_zpow_right₀ (by norm_num) (by push_cast; omega)
  unfold expS
  rw [if_pos ⟨hlo, hhi⟩, P_two]
  rw [P_mid n h1 (by omega)] at hx
  rw [P_mid (n + 1) (by omega) (by omega)] at hx'
  induction x using EReal.rec with
  | bot => exact absurd hx (by simp)
  | top => exact absurd hx' (by simp)
  | coe r =>
    rw [EReal.coe_le_coe_iff] at hx
    rw [EReal.coe_lt_coe_iff] at hx'
    have hr : 0 < r := lt_of_lt_of_le (zpow_pos (by norm_num) _) hx
    have hl2 : 0 < Real.log 2 := Real.log_pos (by norm_num)
    have e1 : Ideal.log (r : EReal) = (Real.log r : EReal) := by
      show (if r ≤ 0 then (⊥ : EReal) else (Real.log r : EReal)) = _
      rw [if_neg (not_le.mpr hr)]
    have e2 : Ideal.log ((2 : ℝ) : EReal) = (Real.log 2 : EReal) := by
      show (if (2 : ℝ) ≤ 0 then (⊥ : EReal) else (Real.log 2 : EReal)) = _
      rw [if_neg (by norm_num)]
    have e3 : Ideal.div (Real.log r : EReal) (Real.log 2 : EReal) = ((Real.log r / Real.log 2 : ℝ) : EReal) := by
      unfold Ideal.div
      rw [if_neg (EReal.coe_ne_zero.mpr hl2.ne'), div_eq_mul_inv, EReal.coe_mul, EReal.coe_inv]
    have e4 : ⌊Real.log r / Real.log 2⌋ = (n : ℤ) - 127 := by
      rw [Int.floor_eq_iff]
      constructor
      · rw [le_div_iff₀ hl2, ← Real.log_zpow]
        exact Real.log_le_log (zpow_pos (by norm_num) _) hx
      · rw [div_lt_iff₀ hl2]
        have : ((((n : ℤ) - 127 : ℤ) : ℝ) + 1) = (((((n + 1 : ℕ) : ℤ) - 127 : ℤ)) : ℝ) := by push_cast; ring
        rw [this, ← Real.log_zpow]
        exact Real.log_lt_log hr hx'
    rw [e1, e2, e3]
    show (((⌊Real.log r / Real.log 2⌋ : ℤ) : ℝ) : EReal) + 1 = _
    rw [e4, show (1 : EReal) = ((1 : ℝ) : EReal) from rfl, ← EReal.coe_add]
    congr 1
    push_cast; ring

/-- Outside the range the reference's exponent is 0. -/
theorem expS_out (x : EReal) (h : x < P 1 ∨ ¬ x < P 247) : expS x = 0 := by
  unfold expS
  rw [if_neg]
  rintro ⟨h1, h2⟩
  rcases h with h | h
  · exact absurd h1 (not_le.mpr h)
  · exact h h2

/-! ## The two agree -/

/-- A special field is replaced by 126. -/
theorem biasS_special (x : EReal) (h : fieldS x = 0#32 ∨ fieldS x = 255#32) : biasS x = 126#32 := by
  unfold biasS
  rcases h with h | h <;> rw [h] <;> rfl

/-- Another field stays. -/
theorem biasS_mid (x : EReal) (n : ℕ) (h1 : 1 ≤ n) (h2 : n ≤ 246) (h : fieldS x = BitVec.ofNat 32 n) : biasS x = BitVec.ofNat 32 n := by
  have key : ∀ k : Fin 247, 1 ≤ k.val → (Scalar.select (IntOp.ori (IntOp.cmpi CmpIPredicate.eq (BitVec.ofNat 32 k.val) 0#32)
      (IntOp.cmpi CmpIPredicate.eq (BitVec.ofNat 32 k.val) 255#32)) 126#32 (BitVec.ofNat 32 k.val)) = BitVec.ofNat 32 k.val := by
    decide +kernel
  unfold biasS
  rw [h]
  exact key ⟨n, by omega⟩ h1

/-- Outside the range the field found is special. -/
theorem special_of (x : EReal) (h : x < P 1 ∨ ¬ x < P 247) : fieldS x = 0#32 ∨ fieldS x = 255#32 := by
  by_cases hx : x < P 247
  · rcases field_cases x hx with ⟨h0, _⟩ | ⟨n, h1, h2, _, hp, _⟩
    · exact Or.inl h0
    · exfalso
      have hl : x < P 1 := h.resolve_right (not_not.mpr hx)
      have := P_le (hp.trans hl.le) h1 (by omega) (by omega) (by omega)
      have : n = 1 := by omega
      subst this
      exact absurd hl (not_lt.mpr hp)
  · refine Or.inr ?_
    unfold fieldS
    rw [bits_hi, if_neg hx]

/-- `exp2` of 0 is 1. -/
theorem exp2_zero : Ideal.exp2 0 = 1 := by
  have := exp2_int 0
  simpa using this

/-- Kernel and reference have the same scale and the same inverse. -/
theorem both (x : EReal) : scaleK x = scaleS x ∧ invK x = invS x := by
  by_cases h : x < P 1 ∨ ¬ x < P 247
  · unfold scaleK invK scaleS invS
    rw [biasS_special x (special_of x h), expS_out x h]
    refine ⟨?_, ?_⟩
    · rw [exp2_zero]; exact P_one
    · rw [sub_zero, exp2_zero]; exact P_one
  · rw [not_or, not_not, not_lt] at h
    rcases field_cases x h.2 with ⟨_, hl⟩ | ⟨n, h1, h2, hf, hp, hp'⟩
    · exact absurd hl (not_lt.mpr h.1)
    · unfold scaleK invK scaleS invS
      rw [biasS_mid x n h1 h2 hf, expS_mid x n h1 h2 hp hp']
      refine ⟨?_, ?_⟩
      · have e : IntOp.addi (BitVec.ofNat 32 n) 1#32 = BitVec.ofNat 32 (n + 1) := by
          show BitVec.ofNat 32 n + BitVec.ofNat 32 1 = _
          rw [BitVec.ofNat_add]
        rw [e, shl_P, exp2_int, P_mid (n + 1) (by omega) (by omega)]
        congr 2
        push_cast; ring
      · have key : ∀ k : Fin 247, IntOp.subi 253#32 (BitVec.ofNat 32 k.val) = BitVec.ofNat 32 (253 - k.val) := by decide +kernel
        rw [show IntOp.subi 253#32 (BitVec.ofNat 32 n) = BitVec.ofNat 32 (253 - n) from key ⟨n, by omega⟩, shl_P,
          P_mid (253 - n) (by omega) (by omega)]
        rw [show (0 : EReal) - ((((n : ℤ) - 126 : ℤ) : ℝ) : EReal) = (((126 - (n : ℤ) : ℤ) : ℝ) : EReal) by
          rw [show (0 : EReal) = ((0 : ℝ) : EReal) from rfl, ← EReal.coe_sub]
          congr 1
          push_cast; ring, exp2_int]
        congr 2
        omega

/-- The scales are the same. -/
theorem scaleK_eq (x : EReal) : scaleK x = scaleS x := (both x).1
/-- The inverses are the same. -/
theorem invK_eq (x : EReal) : invK x = invS x := (both x).2

end Cert.Maths

end
-- ==== Proof.Maths.Model.lean ====
module

public import proofs.«01_k».proof.Proof.Maths.Scale

@[expose] public section

set_option maxRecDepth 16384

noncomputable section

namespace Cert.Maths

open Idealize.ShloMosaic
open scoped BigOperators

/-! ## The layer over extended reals, entry by entry

`x` is one row of activations, `g` the gain, `w` one column of weight codes, `s` its scale. -/

/-- The magnitude. -/
def absE (x : EReal) : EReal := FloatOps.absf (F := Ideal) (φ := .f32) x

/-- A normalised activation. -/
def hR (x g : Fin 2048 → EReal) (j : Fin 2048) : EReal :=
  x j * Ideal.rsqrt ((∑ k, x k * x k) * Ideal.ofBits .f32 973078528#32 + Ideal.ofBits .f32 897988541#32) * g j

/-- A row's largest magnitude over 448. -/
def amR (x g : Fin 2048 → EReal) : EReal :=
  Finset.fold max (Ideal.ofBits .f32 4286578688#32) (fun k => absE (hR x g k)) Finset.univ * Ideal.ofBits .f32 991054117#32

/-- A value clipped to the codes' range. -/
def clipE (x : EReal) : EReal := min (Ideal.ofBits .f32 1138753536#32) (max (Ideal.ofBits .f32 3286237184#32) x)

/-- A code of a row, and the row's scale. -/
def xcR (x g : Fin 2048 → EReal) (j : Fin 2048) : EReal := clipE (hR x g j * invS (amR x g))
/-- The scale of a row. -/
def xsR (x g : Fin 2048 → EReal) : EReal := scaleS (amR x g)

/-- An entry of the product, scaled. -/
def yR (x g : Fin 2048 → EReal) (w : Fin 2048 → EReal) (s : EReal) : EReal := (∑ k, xcR x g k * w k) * xsR x g * s

/-- The product's largest magnitude; the argument of its scale; a code of the product. -/
def ymax (y : Fin 1024 → Fin 8192 → EReal) : EReal :=
  Finset.fold max (Ideal.ofBits .f32 4286578688#32) (fun p : Fin 1024 × Fin 8192 => absE (y p.1 p.2)) Finset.univ
/-- The argument of the product's scale: its largest magnitude over 448. -/
def yarg (y : Fin 1024 → Fin 8192 → EReal) : EReal := ymax y * Ideal.ofBits .f32 991054117#32
/-- A code of the product. -/
def ycR (y : Fin 1024 → Fin 8192 → EReal) (r : Fin 1024) (j : Fin 8192) : EReal := clipE (y r j * invS (yarg y))

/-! ## Facts about maxima -/

/-- The bits of minus infinity read as the least extended real. -/
theorem bot_of (b : BitVec 32) (h1 : (b.extractLsb' 23 8).toNat = 255) (h2 : (b.extractLsb' 0 23).toNat = 0)
    (h3 : (b.extractLsb' 31 1 == 1#1) = true) : Ideal.ofBits .f32 b = ⊥ := by
  show Ideal.ieee 8 23 _ = _
  unfold Ideal.ieee
  have e0 : (255 : ℕ) = 2 ^ 8 - 1 := by norm_num
  simp only [h1, h2, h3, if_pos e0, Nat.reduceAdd, if_true]

/-- So does the constant that the maxima start from. -/
theorem bot_bits : Ideal.ofBits .f32 4286578688#32 = ⊥ :=
  bot_of _ (by decide +kernel) (by decide +kernel) (by decide +kernel)

/-- A magnitude is not negative. -/
theorem absE_nonneg (x : EReal) : 0 ≤ absE x := by
  show 0 ≤ max x (-x)
  rcases le_total 0 x with h | h
  · exact le_max_of_le_left h
  · exact le_max_of_le_right (EReal.neg_nonneg.mpr h)

/-- The product's largest magnitude is at most `b` just when every magnitude is. -/
theorem ymax_le (y : Fin 1024 → Fin 8192 → EReal) (b : EReal) : ymax y ≤ b ↔ ∀ r j, absE (y r j) ≤ b := by
  unfold ymax
  rw [Finset.fold_max_le, bot_bits]
  constructor
  · intro h r j; exact h.2 (r, j) (Finset.mem_univ _)
  · intro h; exact ⟨bot_le, fun p _ => h p.1 p.2⟩

/-- The mean's division by 2048 is a product with its inverse. -/
theorem div_2048 (x : EReal) : Ideal.div x (Ideal.ofBits .f32 1157627904#32) = x * Ideal.ofBits .f32 973078528#32 := by
  rw [bits_P 138 _ (by decide : 1157627904#32 = BitVec.ofNat 32 138 <<< 23),
    bits_P 116 _ (by decide : 973078528#32 = BitVec.ofNat 32 116 <<< 23),
    P_mid 138 (by norm_num) (by norm_num), P_mid 116 (by norm_num) (by norm_num)]
  unfold Ideal.div
  rw [if_neg (EReal.coe_ne_zero.mpr (zpow_pos (by norm_num : (0 : ℝ) < 2) _).ne'), ← EReal.coe_inv]
  norm_num

/-- The exponent with its range test spelt as two comparisons joined. -/
theorem expS_raw (x : EReal) :
    Scalar.select (IntOp.andi (Ideal.cmp .oge x (Ideal.ofBits .f32 8388608#32)) (Ideal.cmp .olt x (Ideal.ofBits .f32 2071986176#32)))
      (Ideal.liftRound Int.floor (Ideal.div (Ideal.log x) (Ideal.log (Ideal.ofBits .f32 1073741824#32))) + 1) 0 = expS x := by
  rw [show Ideal.ofBits .f32 8388608#32 = P 1 from bits_lo, show Ideal.ofBits .f32 2071986176#32 = P 247 from bits_hi,
    show Ideal.ofBits .f32 1073741824#32 = P 128 from bits_two]
  unfold expS Ideal.cmp
  by_cases h1 : P 1 ≤ x <;> by_cases h2 : x < P 247 <;> simp [h1, h2, Scalar.select, IntOp.andi]

end Cert.Maths

end
-- ==== Proof.KernelIdeal.Values.lean ====
module

public import proofs.«01_k».proof.Proof.KernelIdeal.Data
public import proofs.«01_k».proof.Proof.Maths.Model
public import Idealize.ShloMosaic.Lib.Pointwise

@[expose] public section

set_option maxRecDepth 16384

noncomputable section

namespace Cert.KernelIdeal.Hand

open Idealize.ShloMosaic Idealize.ShloMosaic.TcCoe
open Cert.KernelIdeal.Gen Cert.Maths
open scoped BigOperators

/-! ## The kernel's results over extended reals, entry by entry -/

/-- A step of the search, at an entry. -/
theorem stepF_at {s : Shape} (v : FVec Ideal s .f32) (k : BitVec 32) (e : IVec s 32) (j : s.Idx) :
    stepF v k e j = stepS (v j) k (e j) := by
  pointwise [stepF, stepS]

/-- The field found, at an entry. -/
theorem fieldF_at {s : Shape} (v : FVec Ideal s .f32) (j : s.Idx) : fieldF v j = fieldS (v j) := by
  pointwise [fieldF, fieldS, stepF_at]

/-- The field that the scale is made from, at an entry. -/
theorem biasF_at {s : Shape} (v : FVec Ideal s .f32) (j : s.Idx) : biasF v j = biasS (v j) := by
  pointwise [biasF, biasS, fieldF_at]

/-- The scale, at an entry. -/
theorem scaleF_at {s : Shape} (v : FVec Ideal s .f32) (j : s.Idx) : scaleF v j = scaleS (v j) := by
  rw [← scaleK_eq]
  pointwise [scaleF, scaleK, biasF_at]

/-- The scale's inverse, at an entry. -/
theorem invF_at {s : Shape} (v : FVec Ideal s .f32) (j : s.Idx) : invF v j = invS (v j) := by
  rw [← invK_eq]
  pointwise [invF, invK, biasF_at]

/-- A normalised activation of a row block. -/
theorem pay6_at (x0 : FVec Ideal S128x2048 .bf16) (x1 : FVec Ideal S1x2048 .f32) (a : Fin 128) (b : Fin 2048) :
    k0_pay6 (F := Ideal) x0 x1 (ix2 a b) = hR (fun j => x0 (ix2 a j)) (fun j => x1 (ix2 0 j)) b := by
  pointwise [k0_pay6, hR]

/-- A row's largest magnitude over 448. -/
theorem pay7_at (x0 : FVec Ideal S128x2048 .bf16) (x1 : FVec Ideal S1x2048 .f32) (a : Fin 128) (b : Fin 1) :
    k0_pay7 (F := Ideal) x0 x1 (ix2 a b) = amR (fun j => x0 (ix2 a j)) (fun j => x1 (ix2 0 j)) := by
  pointwise [k0_pay7, pay6_at, amR, absE]

/-- A code of a row block. -/
theorem codesC_at (x0 : FVec Ideal S128x2048 .bf16) (x1 : FVec Ideal S1x2048 .f32) (a : Fin 128) (b : Fin 2048) :
    codesC (F := Ideal) x0 x1 (ix2 a b) = xcR (fun j => x0 (ix2 a j)) (fun j => x1 (ix2 0 j)) b := by
  pointwise [codesC, clipF, invF_at, pay6_at, pay7_at, xcR, clipE]

/-- A scale of a row block. -/
theorem scaleC_at (x0 : FVec Ideal S128x2048 .bf16) (x1 : FVec Ideal S1x2048 .f32) (a : Fin 128) (b : Fin 1) :
    scaleC (F := Ideal) x0 x1 (ix2 a b) = xsR (fun j => x0 (ix2 a j)) (fun j => x1 (ix2 0 j)) := by
  pointwise [scaleC, scaleF_at, pay7_at, xsR]

/-- A row of its row block is a row of the whole. -/
theorem rows_at (x0 : FVec Ideal S1024x2048 .bf16) (r : Fin 1024) (h1 : r.val / 128 < 8) (h2 : r.val % 128 < 128) (j : Fin 2048) :
    rows (F := Ideal) ⟨r.val / 128, h1⟩ x0 (ix2 ⟨r.val % 128, h2⟩ j) = x0 (ix2 r j) := by
  refine congrArg x0 (funext fun a => Fin.ext ?_)
  match a with
  | ⟨0, _⟩ => exact Nat.div_add_mod r.val 128
  | ⟨1, _⟩ => rfl

/-- A code of the activations. -/
theorem xcF_at (x0 : FVec Ideal S1024x2048 .bf16) (x1 : FVec Ideal S1x2048 .f32) (r : Fin 1024) (b : Fin 2048) :
    xcF (F := Ideal) x0 x1 (ix2 r b) = xcR (fun j => x0 (ix2 r j)) (fun j => x1 (ix2 0 j)) b := by
  rw [xcF_row (F := Ideal) x0 x1 ⟨r.val / 128, by omega⟩ (ix2 ⟨r.val % 128, by omega⟩ b) (ix2 r b)
    (Nat.div_add_mod r.val 128).symm rfl, codesC_at]
  simp only [rows_at]

/-- A scale of the activations. -/
theorem xsF_at (x0 : FVec Ideal S1024x2048 .bf16) (x1 : FVec Ideal S1x2048 .f32) (r : Fin 1024) (b : Fin 1) :
    xsF (F := Ideal) x0 x1 (ix2 r b) = xsR (fun j => x0 (ix2 r j)) (fun j => x1 (ix2 0 j)) := by
  rw [xsF_row (F := Ideal) x0 x1 ⟨r.val / 128, by omega⟩ (ix2 ⟨r.val % 128, by omega⟩ b) (ix2 r b)
    (Nat.div_add_mod r.val 128).symm rfl, scaleC_at]
  simp only [rows_at]

/-- An entry of a column block of the product. -/
theorem pay3_at (xc : FVec Ideal S1024x2048 .fp8e4m3) (w : FVec Ideal S2048x512 .fp8e4m3) (xs : FVec Ideal S1024x1 .f32)
    (ws : FVec Ideal S1x512 .f32) (r : Fin 1024) (j : Fin 512) :
    yF (F := Ideal) xc w xs ws (ix3 0 r j) = (∑ k, xc (ix2 r k) * w (ix2 k j)) * xs (ix2 r 0) * ws (ix2 0 j) := by
  pointwise [yF, k0_pay3, k0_pay2]

/-- A running maximum after a column block: over the rows that share its place among eight. -/
theorem pay4_at (xc : FVec Ideal S1024x2048 .fp8e4m3) (w : FVec Ideal S2048x512 .fp8e4m3) (xs : FVec Ideal S1024x1 .f32)
    (ws : FVec Ideal S1x512 .f32) (am : FVec Ideal S8x512 .f32) (i : Fin 8) (j : Fin 512) :
    amF (F := Ideal) xc w xs ws am (ix2 i j) = max (am (ix2 i j)) (Finset.fold max (Ideal.ofBits .f32 4286578688#32)
      (fun x : Fin 128 => absE ((∑ k, xc (ix2 ⟨x.val * 8 + i.val, by omega⟩ k) * w (ix2 k j))
        * xs (ix2 ⟨x.val * 8 + i.val, by omega⟩ 0) * ws (ix2 0 j))) Finset.univ) := by
  pointwise [amF, k0_pay4, k0_pay2, absE]

/-- The running maxima start from zero. -/
theorem am0_at (i : Fin 8) (j : Fin 512) : am0F (F := Ideal) (ix2 i j) = 0 := by
  pointwise [am0F, k0_pay5]

/-- The maximum of the running maxima. -/
theorem amaxF_at (am : FVec Ideal S8x512 .f32) : amaxF (F := Ideal) am
    = Finset.fold max (Ideal.ofBits .f32 4286578688#32) (fun p : Fin 8 × Fin 512 => am (ix2 p.1 p.2)) Finset.univ := by
  pointwise [amaxF, k0_pay83]

/-- The maximum of a vector of scales. -/
theorem topF_at (v : FVec Ideal S8x128 .f32) : topF (F := Ideal) v
    = Finset.fold max (Ideal.ofBits .f32 4286578688#32) (fun p : Fin 8 × Fin 128 => v (ix2 p.1 p.2)) Finset.univ := by
  pointwise [topF, k0_pay90]

/-- The maximum of equal entries is the entry. -/
theorem topF_const (v : FVec Ideal S8x128 .f32) (a : EReal) (h : ∀ i j, v (ix2 i j) = a) : topF (F := Ideal) v = a := by
  rw [topF_at]
  simp only [h]
  apply le_antisymm
  · rw [Finset.fold_max_le, bot_bits]
    exact ⟨bot_le, fun _ _ => le_rfl⟩
  · rw [Finset.le_fold_max]
    exact Or.inr ⟨(0, 0), Finset.mem_univ _, le_rfl⟩

/-- Every entry of the vector that the product's scale is made from is the maximum over 448. -/
theorem pay84_at (am : FVec Ideal S8x512 .f32) (i : Fin 8) (j : Fin 128) :
    k0_pay84 (F := Ideal) am (ix2 i j) = amaxF (F := Ideal) am * Ideal.ofBits .f32 991054117#32 := by
  pointwise [k0_pay84, amaxF]

/-- The product's scale. -/
theorem yscF_at (am : FVec Ideal S8x512 .f32) :
    yscF (F := Ideal) am = scaleS (amaxF (F := Ideal) am * Ideal.ofBits .f32 991054117#32) :=
  topF_const _ _ fun i j => by rw [scaleF_at, pay84_at]

/-- The inverse of the product's scale. -/
theorem yinvF_at (am : FVec Ideal S8x512 .f32) :
    yinvF (F := Ideal) am = invS (amaxF (F := Ideal) am * Ideal.ofBits .f32 991054117#32) :=
  topF_const _ _ fun i j => by rw [invF_at, pay84_at]

/-- A code of a column block of the product. -/
theorem codesY_at (v : EReal) (y : FVec Ideal S1x1024x512 .f32) (r : Fin 1024) (j : Fin 512) :
    codesY (F := Ideal) v y (ix2 r j) = clipE (y (ix3 0 r j) * v) := by
  pointwise [codesY, clipF, clipE]

variable (m : (ℓ : Loc nD τ sig) → Buf (Elt Ideal) ℓ)

/-- The arguments as the kernel's windows read them, entry by entry. -/
def xM (c : Dev nD) (r : Fin 1024) (j : Fin 2048) : EReal := X0 m c (ix2 r j)
/-- The gain, entry by entry. -/
def gM (c : Dev nD) (j : Fin 2048) : EReal := G0 m c (ix2 0 j)
/-- The weight codes, column by column. -/
def wM (c : Dev nD) (j : Fin 8192) (k : Fin 2048) : EReal := W m c (j.val / 512) (ix2 k ⟨j.val % 512, by omega⟩)
/-- The weight scales, entry by entry. -/
def sM (c : Dev nD) (j : Fin 8192) : EReal := Sc m c (j.val / 512) (ix2 0 ⟨j.val % 512, by omega⟩)
/-- The product, entry by entry. -/
def yM (c : Dev nD) (r : Fin 1024) (j : Fin 8192) : EReal := yR (xM m c r) (gM m c) (wM m c j) (sM m c j)

/-- An entry of the activations' codes at the end. -/
theorem XC_at (c : Dev nD) (r : Fin 1024) (j : Fin 2048) : XC m c (ix2 r j) = xcR (xM m c r) (gM m c) j :=
  xcF_at (X0 m c) (G0 m c) r j

/-- An entry of the activations' scales at the end. -/
theorem XS_at (c : Dev nD) (r : Fin 1024) (j : Fin 1) : XS m c (ix2 r j) = xsR (xM m c r) (gM m c) :=
  xsF_at (X0 m c) (G0 m c) r j

/-- The formula of a column block's entry is the product's. -/
theorem yB_raw (c : Dev nD) (k : ℕ) (r : Fin 1024) (j : Fin 512) :
    (∑ l, XC m c (ix2 r l) * (show FVec Ideal S2048x512 .fp8e4m3 from W m c k) (ix2 l j)) * XS m c (ix2 r 0)
      * (show FVec Ideal S1x512 .f32 from Sc m c k) (ix2 0 j)
      = yR (xM m c r) (gM m c) (fun l => W m c k (ix2 l j)) (Sc m c k (ix2 0 j)) := by
  unfold yR
  simp only [XC_at, XS_at]

/-- An entry of a column block of the product. -/
theorem yB_at (c : Dev nD) (k : ℕ) (r : Fin 1024) (j : Fin 512) :
    yB m c k (ix3 0 r j) = yR (xM m c r) (gM m c) (fun l => W m c k (ix2 l j)) (Sc m c k (ix2 0 j)) :=
  (pay3_at (XC m c) (W m c k) (XS m c) (Sc m c k) r j).trans (yB_raw m c k r j)

/-- Column `512 k + j` of the product is column `j` of block `k`. -/
theorem yM_col (c : Dev nD) (k : ℕ) (hk : k < 16) (r : Fin 1024) (j : Fin 512) :
    yM m c r ⟨512 * k + j.val, by omega⟩ = yR (xM m c r) (gM m c) (fun l => W m c k (ix2 l j)) (Sc m c k (ix2 0 j)) := by
  have e1 : (512 * k + j.val) / 512 = k := by omega
  have e2 : (⟨(512 * k + j.val) % 512, by omega⟩ : Fin 512) = j := Fin.ext (by show (512 * k + j.val) % 512 = j.val; omega)
  unfold yM wM sM
  dsimp only
  rw [e2, e1]

/-- A running maximum after a block is at most `b` just when it was and the block's magnitudes are. -/
theorem amF_le (c : Dev nD) (k : ℕ) (hk : k < 16) (am : FVec Ideal S8x512 .f32) (i : Fin 8) (j : Fin 512) (b : EReal) :
    amF (F := Ideal) (XC m c) (W m c k) (XS m c) (Sc m c k) am (ix2 i j) ≤ b
      ↔ am (ix2 i j) ≤ b ∧ ∀ x : Fin 128, absE (yM m c ⟨x.val * 8 + i.val, by omega⟩ ⟨512 * k + j.val, by omega⟩) ≤ b := by
  rw [pay4_at, max_le_iff, Finset.fold_max_le, bot_bits]
  constructor
  · rintro ⟨h1, _, h2⟩
    refine ⟨h1, fun x => ?_⟩
    rw [yM_col m c k hk, ← yB_raw m c k]
    exact h2 x (Finset.mem_univ _)
  · rintro ⟨h1, h2⟩
    refine ⟨h1, bot_le, fun x _ => ?_⟩
    rw [yB_raw m c k, ← yM_col m c k hk]
    exact h2 x

/-- A running maximum after step `n` is at most `b` just when 0 and all magnitudes so far are. -/
theorem amAt_le (c : Dev nD) (n : ℕ) (hn : n < 16) (i : Fin 8) (j : Fin 512) (b : EReal) :
    amAt m c n (ix2 i j) ≤ b ↔ 0 ≤ b ∧ ∀ k, (hk : k ≤ n) → ∀ x : Fin 128,
      absE (yM m c ⟨x.val * 8 + i.val, by omega⟩ ⟨512 * k + j.val, by omega⟩) ≤ b := by
  induction n with
  | zero =>
    show amF (F := Ideal) (XC m c) (W m c 0) (XS m c) (Sc m c 0) am0F (ix2 i j) ≤ b ↔ _
    rw [amF_le m c 0 (by omega), am0_at]
    constructor
    · rintro ⟨h1, h2⟩
      refine ⟨h1, fun k hk x => ?_⟩
      have e : k = 0 := by omega
      subst e
      exact h2 x
    · rintro ⟨h1, h2⟩
      exact ⟨h1, fun x => h2 0 le_rfl x⟩
  | succ n ih =>
    show amF (F := Ideal) (XC m c) (W m c (n + 1)) (XS m c) (Sc m c (n + 1)) (amAt m c n) (ix2 i j) ≤ b ↔ _
    rw [amF_le m c (n + 1) hn, ih (by omega)]
    constructor
    · rintro ⟨⟨h1, h2⟩, h3⟩
      refine ⟨h1, fun k hk x => ?_⟩
      by_cases e : k = n + 1
      · subst e; exact h3 x
      · exact h2 k (by omega) x
    · rintro ⟨h1, h2⟩
      exact ⟨⟨h1, fun k hk x => h2 k (by omega) x⟩, fun x => h2 (n + 1) le_rfl x⟩

/-- The running maximum's largest entry is the product's largest magnitude. -/
theorem amax_eq (c : Dev nD) : amaxF (F := Ideal) (amAt m c 15) = ymax (yM m c) := by
  rw [amaxF_at]
  refine eq_of_forall_ge_iff fun b => ?_
  rw [Finset.fold_max_le, bot_bits, ymax_le]
  constructor
  · rintro ⟨_, h⟩ r j
    have h0 := (amAt_le m c 15 (by omega) ⟨r.val % 8, by omega⟩ ⟨j.val % 512, by omega⟩ b).mp
      (h (⟨r.val % 8, by omega⟩, ⟨j.val % 512, by omega⟩) (Finset.mem_univ _))
    have h1 := h0.2 (j.val / 512) (by omega) ⟨r.val / 8, by omega⟩
    have e1 : (⟨r.val / 8 * 8 + r.val % 8, by omega⟩ : Fin 1024) = r := Fin.ext (by show r.val / 8 * 8 + r.val % 8 = r.val; omega)
    have e2 : (⟨512 * (j.val / 512) + j.val % 512, by omega⟩ : Fin 8192) = j :=
      Fin.ext (by show 512 * (j.val / 512) + j.val % 512 = j.val; omega)
    dsimp only at h1
    rw [e1, e2] at h1
    exact h1
  · intro h
    refine ⟨bot_le, fun p _ => (amAt_le m c 15 (by omega) p.1 p.2 b).mpr ⟨(absE_nonneg _).trans (h 0 0), fun k hk x => h _ _⟩⟩

/-- The largest magnitude at the end. -/
theorem YM_at (c : Dev nD) (i : S1x1.Idx) : YM m c i = ymax (yM m c) := amax_eq m c

/-- The product's scale at the end. -/
theorem YS_at (c : Dev nD) (i : S1x1.Idx) : YS m c i = scaleS (yarg (yM m c)) := by
  show yscF (F := Ideal) (amAt m c 15) = _
  rw [yscF_at, amax_eq]; rfl

/-- An entry of the product's codes at the end. -/
theorem YC_at (c : Dev nD) (r : Fin 1024) (j : Fin 8192) : YC m c (ix2 r j) = ycR (yM m c) r j := by
  refine (codesY_at (yinvF (amAt m c 15)) (yB m c (j.val / 512)) r ⟨j.val % 512, by omega⟩).trans ?_
  rw [yB_at, yinvF_at, amax_eq]
  rfl

end Cert.KernelIdeal.Hand

end
-- ==== Proof.KernelIdeal.Blocks.lean ====
module

public import proofs.«01_k».proof.Proof.KernelIdeal.Values
public import Idealize.ShloMosaic.Lib.Pipeline.ValueKit
public import Idealize.ShloMosaic.Lib.Claim

@[expose] public section

set_option maxRecDepth 16384

noncomputable section

namespace Cert.KernelIdeal.Hand

open Idealize.ShloMosaic Idealize.ShloMosaic.TcCoe Idealize.SL.Sem
open Cert.KernelIdeal.Gen

/-! ## The kernel's blocks are the arguments, in rows -/

variable (m : (ℓ : Loc nD τ sig) → Buf (Elt Ideal) ℓ)

/-- Activations and gain are whole at every point; the weights' block is the point's columns. -/
theorem idx_all : ∀ t : Fin cfg0.N, win0_0.index t = ![0, 0] ∧ win0_1.index t = ![0, 0] ∧ win0_2.index t = ![0, t.val] ∧ win0_3.index t = ![0, t.val] :=
  (by decide +kernel : ∀ t : Fin grid0.N, _)

/-- An activation: row `r` is entry `r % 512` of batch `r / 512`. -/
theorem xM_eq (c : Dev nD) (r : Fin 1024) (j : Fin 2048) : xM m c r j
    = (m ((c : Thread nD τ).loc main_arg0) : S2x512x2048.Idx → EReal) (ix3 ⟨r.val / 512, by omega⟩ ⟨r.val % 512, by omega⟩ j) := by
  unfold xM X0
  generalize pt 0 = t
  blk_point [iblk, V, idx_all t]

/-- A gain. -/
theorem gM_eq (c : Dev nD) (j : Fin 2048) : gM m c j
    = (m ((c : Thread nD τ).loc main_arg1) : S2048.Idx → EReal) (ix1 j) := by
  unfold gM G0
  generalize pt 0 = t
  blk_point [iblk, V, idx_all t]

/-- A weight code: column `j` is column `j % 512` of block `j / 512`. -/
theorem wM_eq (c : Dev nD) (j : Fin 8192) (k : Fin 2048) : wM m c j k
    = (m ((c : Thread nD τ).loc main_arg2) : S2048x8192.Idx → EReal) (ix2 k j) := by
  have h : (pt (j.val / 512)).val = j.val / 512 := Nat.mod_eq_of_lt (by omega)
  unfold wM W
  generalize pt (j.val / 512) = t at h ⊢
  blk_point [iblk, V, idx_all t]

/-- A weight scale. -/
theorem sM_eq (c : Dev nD) (j : Fin 8192) : sM m c j
    = (m ((c : Thread nD τ).loc main_arg3) : S8192.Idx → EReal) (ix1 j) := by
  have h : (pt (j.val / 512)).val = j.val / 512 := Nat.mod_eq_of_lt (by omega)
  unfold sM Sc
  generalize pt (j.val / 512) = t at h ⊢
  blk_point [iblk, V, idx_all t]

end Cert.KernelIdeal.Hand

end
-- ==== Proof.ReferenceIdeal.Values.lean ====
module

public import proofs.«01_k».proof.Proof.Gen.ReferenceIdeal.Skeleton
public import proofs.«01_k».proof.Proof.Maths.Model
public import Idealize.ShloMosaic.Lib.Pointwise

@[expose] public section

set_option maxRecDepth 16384

noncomputable section

namespace Cert.ReferenceIdeal.Hand

open Idealize.ShloMosaic Idealize.ShloMosaic.TcCoe
open Cert.ReferenceIdeal.Gen Cert.Maths
open scoped BigOperators

/-! ## The reference's results over extended reals, entry by entry -/

/-- The exponents of a vector of values, as the reference takes them. -/
def expV {s : Shape} (v : FVec Ideal s .f32) : FVec Ideal s .f32 :=
  select (andi (cmpf .oge v (broadcast s (Scalar.ofBits .f32 0x00800000#32))) (cmpf .olt v (broadcast s (Scalar.ofBits .f32 0x7B800000#32))))
    (addf (floor (divf (log v) (log (broadcast s (Scalar.ofBits .f32 0x40000000#32))))) (broadcast s (Scalar.ofBits .f32 0x3F800000#32)))
    (broadcast s (Scalar.ofBits .f32 0x00000000#32))

/-- An exponent, at an entry. -/
theorem expV_at {s : Shape} (v : FVec Ideal s .f32) (j : s.Idx) : expV v j = expS (v j) := by
  rw [← expS_raw, ← bits_one, ← bits_P_zero]
  rfl

/-- A normalised activation. -/
theorem pay1_at (x0 : FVec Ideal S1024x2048 .bf16) (x1 : FVec Ideal S1x2048 .f32) (r : Fin 1024) (j : Fin 2048) :
    k0_pay1 (F := Ideal) x0 x1 (ix2 r j) = hR (fun j => x0 (ix2 r j)) (fun j => x1 (ix2 0 j)) j := by
  pointwise [k0_pay1, hR, div_2048]

/-- A vector times a constant, and `2` to a constant less a vector, at an entry. -/
theorem mulc_at {s : Shape} (v : FVec Ideal s .f32) (c : Ideal .f32) (i : s.Idx) :
    mulf v (broadcast s c) i = FloatOps.mulf (F := Ideal) (φ := .f32) (v i) c := rfl

/-- `exp2`, at an entry. -/
theorem exp2_at {s : Shape} (v : FVec Ideal s .f32) (i : s.Idx) :
    exp2 v i = Ideal.exp2 (v i) := rfl

/-- `2` to a constant less a vector, at an entry. -/
theorem subc_at {s : Shape} (c : Ideal .f32) (v : FVec Ideal s .f32) (i : s.Idx) :
    exp2 (subf (broadcast s c) v) i = FloatOps.exp2 (F := Ideal) (φ := .f32) (FloatOps.subf c (v i)) := rfl

/-- The product's largest magnitude times the constant 1 / 448. -/
theorem yarg_def (y : Fin 1024 → Fin 8192 → EReal) :
    FloatOps.mulf (F := Ideal) (φ := .f32) (ymax y) (Scalar.ofBits .f32 0x3B124925#32) = yarg y := by
  unfold yarg
  generalize ymax y = z
  rfl

/-- A row's largest magnitude times the constant 1 / 448. -/
theorem amR_def (x g : Fin 2048 → EReal) :
    FloatOps.mulf (F := Ideal) (φ := .f32) (Finset.fold max (Ideal.ofBits .f32 4286578688#32) (fun k => absE (hR x g k)) Finset.univ)
      (Scalar.ofBits .f32 0x3B124925#32) = amR x g := by
  unfold amR
  generalize Finset.fold max (Ideal.ofBits .f32 4286578688#32) (fun k => absE (hR x g k)) Finset.univ = z
  rfl

/-- The rows' largest magnitudes, at an entry. -/
theorem amV_raw (y : FVec Ideal S1024x2048 .f32) (r : Fin 1024) (b : Fin 1) :
    shapeCast S1024x1 (multiReduction .maximumf [1] S1024 (absf y) 0xFF800000#32 reduces_S1024x2048_S1024 (.inl rfl) rfl)
      shapeCasts_S1024_S1024x1 (ix2 r b)
      = Finset.fold max (Ideal.ofBits .f32 4286578688#32) (fun k => absE (y (ix2 r k))) Finset.univ := by
  pointwise [absE]

/-- The rows' largest magnitudes over 448. -/
def amV (x0 : FVec Ideal S1024x2048 .bf16) (x1 : FVec Ideal S1x2048 .f32) : FVec Ideal S1024x1 .f32 :=
  mulf (shapeCast S1024x1 (multiReduction .maximumf [1] S1024 (absf (k0_pay1 x0 x1)) 0xFF800000#32 reduces_S1024x2048_S1024 (.inl rfl) rfl)
    shapeCasts_S1024_S1024x1) (broadcast S1024x1 (Scalar.ofBits .f32 0x3B124925#32))

/-- A row's largest magnitude over 448. -/
theorem amV_at (x0 : FVec Ideal S1024x2048 .bf16) (x1 : FVec Ideal S1x2048 .f32) (r : Fin 1024) (b : Fin 1) :
    amV x0 x1 (ix2 r b) = amR (fun j => x0 (ix2 r j)) (fun j => x1 (ix2 0 j)) := by
  unfold amV
  rw [mulc_at, amV_raw]
  simp only [pay1_at]
  exact amR_def _ _

/-- A row's exponent. -/
theorem pay2_at (x0 : FVec Ideal S1024x2048 .bf16) (x1 : FVec Ideal S1x2048 .f32) (r : Fin 1024) (b : Fin 1) :
    k0_pay2 (F := Ideal) x0 x1 (ix2 r b) = expS (amR (fun j => x0 (ix2 r j)) (fun j => x1 (ix2 0 j))) := by
  have e : k0_pay2 (F := Ideal) x0 x1 = expV (amV x0 x1) := rfl
  rw [e, expV_at, amV_at]

/-- Values times `2` to minus the exponents, clipped. -/
theorem clip_raw (a : EReal) (e : EReal) :
    FloatOps.minimumf (F := Ideal) (φ := .f32) (Scalar.ofBits .f32 0x43E00000#32) (FloatOps.maximumf (Scalar.ofBits .f32 0xC3E00000#32)
      (FloatOps.mulf a (FloatOps.exp2 (FloatOps.subf (Scalar.ofBits .f32 0x00000000#32) e)))) = clipE (a * Ideal.exp2 (0 - e)) := by
  rw [← bits_P_zero]
  rfl

/-- One value per row, spread along the rows. -/
theorem spread_row (u : FVec Ideal S1024x1 .f32) (r : Fin 1024) (j : Fin 2048) :
    broadcastTo S1024x2048 u broadcasts_S1024x1_S1024x2048 (ix2 r j) = u (ix2 r 0) := by
  pointwise []

/-- The inverse of a row's scale, spread along the row. -/
theorem inv_at (x0 : FVec Ideal S1024x2048 .bf16) (x1 : FVec Ideal S1x2048 .f32) (r : Fin 1024) (j : Fin 2048) :
    broadcastTo S1024x2048 (exp2 (subf (broadcast S1024x1 (Scalar.ofBits .f32 0x00000000#32)) (k0_pay2 (F := Ideal) x0 x1)))
      broadcasts_S1024x1_S1024x2048 (ix2 r j) = FloatOps.exp2 (F := Ideal) (φ := .f32) (FloatOps.subf (Scalar.ofBits .f32 0x00000000#32) (expS (amR (fun j => x0 (ix2 r j)) (fun j => x1 (ix2 0 j))))) := by
  rw [spread_row, subc_at, pay2_at]

/-- A code of the activations. -/
theorem pay4_at (x0 : FVec Ideal S1024x2048 .bf16) (x1 : FVec Ideal S1x2048 .f32) (r : Fin 1024) (j : Fin 2048) :
    k0_pay4 (F := Ideal) (Scalar.ofBits .f32 0x43E00000#32) (k0_pay3 x0 x1) (ix2 r j) = xcR (fun j => x0 (ix2 r j)) (fun j => x1 (ix2 0 j)) j := by
  show FloatOps.minimumf (F := Ideal) (φ := .f32) (Scalar.ofBits .f32 0x43E00000#32) (FloatOps.maximumf (Scalar.ofBits .f32 0xC3E00000#32)
    (FloatOps.mulf (k0_pay1 (F := Ideal) x0 x1 (ix2 r j)) (broadcastTo S1024x2048 (exp2 (subf (broadcast S1024x1 (Scalar.ofBits .f32 0x00000000#32)) (k0_pay2 (F := Ideal) x0 x1)))
      broadcasts_S1024x1_S1024x2048 (ix2 r j)))) = _
  rw [inv_at, clip_raw, pay1_at]
  unfold xcR invS
  with_reducible rfl

/-- A scale, from its exponent. -/
theorem pay5_raw (v : FVec Ideal S1024x1 .f32) (r : Fin 1024) (b : Fin 1) :
    k0_pay5 (F := Ideal) v (ix2 r b) = Ideal.exp2 (v (ix2 r b)) := rfl

/-- A scale of the activations. -/
theorem pay5_at (x0 : FVec Ideal S1024x2048 .bf16) (x1 : FVec Ideal S1x2048 .f32) (r : Fin 1024) (b : Fin 1) :
    k0_pay5 (F := Ideal) (k0_pay2 x0 x1) (ix2 r b) = xsR (fun j => x0 (ix2 r j)) (fun j => x1 (ix2 0 j)) := by
  rw [pay5_raw, pay2_at]
  unfold xsR scaleS
  with_reducible rfl

/-- An entry of the product, from the blocks. -/
def yA (x0 : FVec Ideal S1024x2048 .bf16) (x1 : FVec Ideal S1x2048 .f32) (x2 : FVec Ideal S2048x8192 .fp8e4m3)
    (x3 : FVec Ideal S1x8192 .f32) (r : Fin 1024) (j : Fin 8192) : EReal :=
  yR (fun j => x0 (ix2 r j)) (fun j => x1 (ix2 0 j)) (fun k => x2 (ix2 k j)) (x3 (ix2 0 j))

/-- The product from the codes and the scales. -/
theorem pay6_raw (xc : FVec Ideal S1024x2048 .fp8e4m3) (xs : FVec Ideal S1024x1 .f32) (x2 : FVec Ideal S2048x8192 .fp8e4m3)
    (x3 : FVec Ideal S1x8192 .f32) (r : Fin 1024) (j : Fin 8192) :
    mulf (mulf (matmul dot_S1024x2048_S2048x8192_S1024x8192_1_0_0_1_n_n none xc x2 (constant S1024x8192 .f32 0x00000000#32))
      (broadcastTo S1024x8192 xs broadcasts_S1024x1_S1024x8192))
      (broadcastTo S1024x8192 (shapeCast S1x8192 x3 shapeCasts_S1x8192_S1x8192) broadcasts_S1x8192_S1024x8192) (ix2 r j)
      = (∑ k, xc (ix2 r k) * x2 (ix2 k j)) * xs (ix2 r 0) * x3 (ix2 0 j) := by
  pointwise []

/-- An entry of the product. -/
theorem pay6_at (x0 : FVec Ideal S1024x2048 .bf16) (x1 : FVec Ideal S1x2048 .f32) (x2 : FVec Ideal S2048x8192 .fp8e4m3)
    (x3 : FVec Ideal S1x8192 .f32) (r : Fin 1024) (j : Fin 8192) :
    k0_pay6 (F := Ideal) (k0_pay2 x0 x1) (Scalar.ofBits .f32 0x43E00000#32) (k0_pay3 x0 x1) x2 x3 (ix2 r j) = yA x0 x1 x2 x3 r j := by
  refine (pay6_raw (k0_pay4 (Scalar.ofBits .f32 0x43E00000#32) (k0_pay3 x0 x1)) (k0_pay5 (k0_pay2 x0 x1)) x2 x3 r j).trans ?_
  rw [pay5_at]
  simp only [pay4_at]
  unfold yA yR
  with_reducible rfl

/-- The largest magnitude of a matrix. -/
theorem pay7_raw (y : FVec Ideal S1024x8192 .f32) (i : S1x1.Idx) :
    broadcast S1x1 (extractAt ![0, 0, 0] (shapeCast S1x1x1 (multiReduction .maximumf [1, 2] S1 (shapeCast S1x1024x8192 (absf y) shapeCasts_S1024x8192_S1x1024x8192)
      0xFF800000#32 reduces_S1x1024x8192_S1 (.inl rfl) rfl) shapeCasts_S1_S1x1x1) inpos_S1x1x1_p0_0_0) i
      = ymax (fun r j => y (ix2 r j)) := by
  pointwise [ymax, absE]

/-- The product's largest magnitude. -/
theorem pay7_at (x0 : FVec Ideal S1024x2048 .bf16) (x1 : FVec Ideal S1x2048 .f32) (x2 : FVec Ideal S2048x8192 .fp8e4m3)
    (x3 : FVec Ideal S1x8192 .f32) (i : S1x1.Idx) :
    k0_pay7 (F := Ideal) (k0_pay2 x0 x1) (Scalar.ofBits .f32 0x43E00000#32) (k0_pay3 x0 x1) x2 x3 i = ymax (yA x0 x1 x2 x3) := by
  refine (pay7_raw (k0_pay6 (k0_pay2 x0 x1) (Scalar.ofBits .f32 0x43E00000#32) (k0_pay3 x0 x1) x2 x3) i).trans ?_
  exact congrArg ymax (funext fun r => funext fun j => pay6_at x0 x1 x2 x3 r j)

/-- The exponent of the product's scale. -/
theorem pay8_at (x0 : FVec Ideal S1024x2048 .bf16) (x1 : FVec Ideal S1x2048 .f32) (x2 : FVec Ideal S2048x8192 .fp8e4m3)
    (x3 : FVec Ideal S1x8192 .f32) (i : S1x1.Idx) :
    k0_pay8 (F := Ideal) (k0_pay2 x0 x1) (Scalar.ofBits .f32 0x43E00000#32) (k0_pay3 x0 x1) x2 x3 i = expS (yarg (yA x0 x1 x2 x3)) := by
  have e : k0_pay8 (F := Ideal) (k0_pay2 x0 x1) (Scalar.ofBits .f32 0x43E00000#32) (k0_pay3 x0 x1) x2 x3
    = expV (mulf (k0_pay7 (k0_pay2 x0 x1) (Scalar.ofBits .f32 0x43E00000#32) (k0_pay3 x0 x1) x2 x3) (broadcast S1x1 (Scalar.ofBits .f32 0x3B124925#32))) := rfl
  rw [e, expV_at]
  refine congrArg expS ?_
  rw [mulc_at, pay7_at]
  exact yarg_def _

/-- One value, spread over the product. -/
theorem spread_one (u : FVec Ideal S1x1 .f32) (r : Fin 1024) (j : Fin 8192) :
    broadcastTo S1024x8192 u broadcasts_S1x1_S1024x8192 (ix2 r j) = u (ix2 0 0) := by
  pointwise []

/-- The inverse of the product's scale, spread over the product. -/
theorem invy_at (x0 : FVec Ideal S1024x2048 .bf16) (x1 : FVec Ideal S1x2048 .f32) (x2 : FVec Ideal S2048x8192 .fp8e4m3)
    (x3 : FVec Ideal S1x8192 .f32) (r : Fin 1024) (j : Fin 8192) :
    broadcastTo S1024x8192 (exp2 (subf (broadcast S1x1 (Scalar.ofBits .f32 0x00000000#32)) (k0_pay8 (F := Ideal) (k0_pay2 x0 x1) (Scalar.ofBits .f32 0x43E00000#32) (k0_pay3 x0 x1) x2 x3)))
      broadcasts_S1x1_S1024x8192 (ix2 r j) = FloatOps.exp2 (F := Ideal) (φ := .f32) (FloatOps.subf (Scalar.ofBits .f32 0x00000000#32) (expS (yarg (yA x0 x1 x2 x3)))) := by
  rw [spread_one, subc_at, pay8_at]

/-- A code of the product. -/
theorem pay9_at (x0 : FVec Ideal S1024x2048 .bf16) (x1 : FVec Ideal S1x2048 .f32) (x2 : FVec Ideal S2048x8192 .fp8e4m3)
    (x3 : FVec Ideal S1x8192 .f32) (r : Fin 1024) (j : Fin 8192) :
    k0_pay9 (F := Ideal) (k0_pay2 x0 x1) (Scalar.ofBits .f32 0x43E00000#32) (k0_pay3 x0 x1) x2 x3 (ix2 r j) = ycR (yA x0 x1 x2 x3) r j := by
  show FloatOps.minimumf (F := Ideal) (φ := .f32) (Scalar.ofBits .f32 0x43E00000#32) (FloatOps.maximumf (Scalar.ofBits .f32 0xC3E00000#32)
    (FloatOps.mulf (k0_pay6 (F := Ideal) (k0_pay2 x0 x1) (Scalar.ofBits .f32 0x43E00000#32) (k0_pay3 x0 x1) x2 x3 (ix2 r j)) (broadcastTo S1024x8192 (exp2 (subf (broadcast S1x1 (Scalar.ofBits .f32 0x00000000#32)) (k0_pay8 (F := Ideal) (k0_pay2 x0 x1) (Scalar.ofBits .f32 0x43E00000#32) (k0_pay3 x0 x1) x2 x3)))
      broadcasts_S1x1_S1024x8192 (ix2 r j)))) = _
  rw [invy_at, clip_raw, pay6_at]
  unfold ycR invS
  with_reducible rfl

/-- The product's scale. -/
theorem pay10_at (x0 : FVec Ideal S1024x2048 .bf16) (x1 : FVec Ideal S1x2048 .f32) (x2 : FVec Ideal S2048x8192 .fp8e4m3)
    (x3 : FVec Ideal S1x8192 .f32) (i : S1x1.Idx) :
    k0_pay10 (F := Ideal) (k0_pay2 x0 x1) (Scalar.ofBits .f32 0x43E00000#32) (k0_pay3 x0 x1) x2 x3 i = scaleS (yarg (yA x0 x1 x2 x3)) := by
  have e : k0_pay10 (F := Ideal) (k0_pay2 x0 x1) (Scalar.ofBits .f32 0x43E00000#32) (k0_pay3 x0 x1) x2 x3 = exp2 (k0_pay8 (F := Ideal) (k0_pay2 x0 x1) (Scalar.ofBits .f32 0x43E00000#32) (k0_pay3 x0 x1) x2 x3) := rfl
  rw [e, exp2_at, pay8_at]
  unfold scaleS
  with_reducible rfl

end Cert.ReferenceIdeal.Hand

end
-- ==== Proof.ReferenceIdeal.Final.lean ====
module

public import proofs.«01_k».proof.Proof.Gen.ReferenceIdeal.Frame
public import proofs.«01_k».proof.Proof.Maths.Model
public import Idealize.ShloMosaic.Lib.Pointwise
public import Idealize.ShloMosaic.Lib.Pipeline.ValueKit

@[expose] public section

set_option maxRecDepth 16384

noncomputable section

namespace Cert.ReferenceIdeal.Hand

open Idealize.ShloMosaic Idealize.ShloMosaic.TcCoe Idealize.SL.Sem
open Idealize.ShloMosaic.Pipeline (Dat)
open Cert.ReferenceIdeal.Gen Cert.Maths
open scoped BigOperators

/-! ## The blocks -/

/-- The four blocks the one step reads: activations, gain, weight codes, weight scales. -/
def B0 (m : (ℓ : Loc nD τ sig) → Buf (Elt Ideal) ℓ) (c : Dev nD) : Vec Ideal S1024x2048 .bf16 := iblk m c 0 t0_0
/-- The gain. -/
def B1 (m : (ℓ : Loc nD τ sig) → Buf (Elt Ideal) ℓ) (c : Dev nD) : Vec Ideal S1x2048 .f32 := iblk m c 1 t0_0
/-- The weight codes. -/
def B2 (m : (ℓ : Loc nD τ sig) → Buf (Elt Ideal) ℓ) (c : Dev nD) : Vec Ideal S2048x8192 .fp8e4m3 := iblk m c 2 t0_0
/-- The weight scales. -/
def B3 (m : (ℓ : Loc nD τ sig) → Buf (Elt Ideal) ℓ) (c : Dev nD) : Vec Ideal S1x8192 .f32 := iblk m c 3 t0_0

/-! ## The result arrays after the run -/

variable (m : (ℓ : Loc nD τ sig) → Buf (Elt Ideal) ℓ) (ρ : Dev nD → PrngReg)

/-- The exponents and the values they scale, from whole blocks. -/
theorem pay11_eq (x0 : Vec Ideal S1024x2048 .bf16) (x1 : Vec Ideal S1x2048 .f32) (x2 : Vec Ideal S2048x8192 .fp8e4m3) (x3 : Vec Ideal S1x8192 .f32) :
    k0_pay11 (F := Ideal) x0 x1 x2 x3 = k0_pay2 x0 x1 := by
  unfold k0_pay11 r0_0 r0_1
  rw [View.ld_unit_zero (by funext a; fin_cases a <;> rfl), View.ld_unit_zero (by funext a; fin_cases a <;> rfl)]

/-- The normalised values, from whole blocks. -/
theorem pay12_eq (x0 : Vec Ideal S1024x2048 .bf16) (x1 : Vec Ideal S1x2048 .f32) (x2 : Vec Ideal S2048x8192 .fp8e4m3) (x3 : Vec Ideal S1x8192 .f32) :
    k0_pay12 (F := Ideal) x0 x1 x2 x3 = k0_pay3 x0 x1 := by
  unfold k0_pay12 r0_0 r0_1
  rw [View.ld_unit_zero (by funext a; fin_cases a <;> rfl), View.ld_unit_zero (by funext a; fin_cases a <;> rfl)]

/-- The product's codes. -/
theorem final4 (c : Dev nD) : (dats m 0 c).arrAt 4 cfg0.N
    = k0_pay9 (F := Ideal) (k0_pay2 (B0 m c) (B1 m c)) (Scalar.ofBits .f32 0x43E00000#32)
        (k0_pay3 (B0 m c) (B1 m c)) (B2 m c) (B3 m c) := by
  refine (dats m 0 c).arrAt_eq_of_after_last 4 t0_0 (by decide +kernel) _ fun j => ?_
  blk_simp
  rw [after0_4]
  frame_out
  rw [pay11_eq, pay12_eq]
  unfold B0 B1 B2 B3
  with_reducible rfl

/-- The product's scale. -/
theorem final5 (c : Dev nD) : (dats m 0 c).arrAt 5 cfg0.N
    = k0_pay10 (F := Ideal) (k0_pay2 (B0 m c) (B1 m c)) (Scalar.ofBits .f32 0x43E00000#32)
        (k0_pay3 (B0 m c) (B1 m c)) (B2 m c) (B3 m c) := by
  refine (dats m 0 c).arrAt_eq_of_after_last 5 t0_0 (by decide +kernel) _ fun j => ?_
  blk_simp
  rw [after0_5]
  frame_out
  rw [pay11_eq, pay12_eq]
  unfold B0 B1 B2 B3
  with_reducible rfl

/-- The product's largest magnitude. -/
theorem final6 (c : Dev nD) : (dats m 0 c).arrAt 6 cfg0.N
    = k0_pay7 (F := Ideal) (k0_pay2 (B0 m c) (B1 m c)) (Scalar.ofBits .f32 0x43E00000#32)
        (k0_pay3 (B0 m c) (B1 m c)) (B2 m c) (B3 m c) := by
  refine (dats m 0 c).arrAt_eq_of_after_last 6 t0_0 (by decide +kernel) _ fun j => ?_
  blk_simp
  rw [after0_6]
  frame_out
  rw [pay11_eq, pay12_eq]
  unfold B0 B1 B2 B3
  with_reducible rfl

/-- The activations' codes. -/
theorem final7 (c : Dev nD) : (dats m 0 c).arrAt 7 cfg0.N
    = k0_pay4 (F := Ideal) (Scalar.ofBits .f32 0x43E00000#32) (k0_pay3 (B0 m c) (B1 m c)) := by
  refine (dats m 0 c).arrAt_eq_of_after_last 7 t0_0 (by decide +kernel) _ fun j => ?_
  blk_simp
  rw [after0_7]
  frame_out
  rw [pay12_eq]
  unfold B0 B1
  with_reducible rfl

/-- The activations' scales. -/
theorem final8 (c : Dev nD) : (dats m 0 c).arrAt 8 cfg0.N
    = k0_pay5 (F := Ideal) (k0_pay2 (B0 m c) (B1 m c)) := by
  refine (dats m 0 c).arrAt_eq_of_after_last 8 t0_0 (by decide +kernel) _ fun j => ?_
  blk_simp
  rw [after0_8]
  frame_out
  rw [pay11_eq]
  unfold B0 B1
  with_reducible rfl

/-- The run with the results named and the arguments unchanged. -/
theorem run_results : θ_run defs (onTc (τ := τ) (main (F := Ideal))) ⟨m, fun _ => 0, ρ⟩ fun r => ∀ c : Dev nD,
      r.2.mem ((c : Thread nD τ).loc main_v3_0) = k0_pay9 (F := Ideal) (k0_pay2 (B0 m c) (B1 m c)) (Scalar.ofBits .f32 0x43E00000#32) (k0_pay3 (B0 m c) (B1 m c)) (B2 m c) (B3 m c)
      ∧ r.2.mem ((c : Thread nD τ).loc main_v3_1) = k0_pay10 (F := Ideal) (k0_pay2 (B0 m c) (B1 m c)) (Scalar.ofBits .f32 0x43E00000#32) (k0_pay3 (B0 m c) (B1 m c)) (B2 m c) (B3 m c)
      ∧ r.2.mem ((c : Thread nD τ).loc main_v3_2) = k0_pay7 (F := Ideal) (k0_pay2 (B0 m c) (B1 m c)) (Scalar.ofBits .f32 0x43E00000#32) (k0_pay3 (B0 m c) (B1 m c)) (B2 m c) (B3 m c)
      ∧ r.2.mem ((c : Thread nD τ).loc main_v3_3) = k0_pay4 (F := Ideal) (Scalar.ofBits .f32 0x43E00000#32) (k0_pay3 (B0 m c) (B1 m c))
      ∧ r.2.mem ((c : Thread nD τ).loc main_v3_4) = k0_pay5 (F := Ideal) (k0_pay2 (B0 m c) (B1 m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final4 m c),
      ((h c).1 5).trans (final5 m c),
      ((h c).1 6).trans (final6 m c),
      ((h c).1 7).trans (final7 m c),
      ((h c).1 8).trans (final8 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.ReferenceIdeal.Hand

end
-- ==== Proof.ReferenceIdeal.Blocks.lean ====
module

public import proofs.«01_k».proof.Proof.ReferenceIdeal.Final
public import Idealize.ShloMosaic.Lib.Claim

@[expose] public section

set_option maxRecDepth 16384

noncomputable section

namespace Cert.ReferenceIdeal.Hand

open Idealize.ShloMosaic Idealize.ShloMosaic.TcCoe Idealize.SL.Sem
open Cert.ReferenceIdeal.Gen

/-! ## The reference's blocks are the arguments, in rows -/

variable (m : (ℓ : Loc nD τ sig) → Buf (Elt Ideal) ℓ)

/-- Every window of the one step starts at the origin. -/
theorem idx_all : ∀ t : Fin cfg0.N, win0_0.index t = ![0, 0] ∧ win0_1.index t = ![0, 0] ∧ win0_2.index t = ![0, 0] ∧ win0_3.index t = ![0, 0] :=
  (by decide +kernel : ∀ t : Fin grid0.N, _)

/-- An activation: row `r` is entry `r % 512` of batch `r / 512`. -/
theorem B0_at (c : Dev nD) (r : Fin 1024) (j : Fin 2048) : B0 m c (ix2 r j)
    = (m ((c : Thread nD τ).loc main_arg0) : S2x512x2048.Idx → EReal) (ix3 ⟨r.val / 512, by omega⟩ ⟨r.val % 512, by omega⟩ j) := by
  blk_point [B0, iblk, V, idx_all t0_0]

/-- A gain. -/
theorem B1_at (c : Dev nD) (j : Fin 2048) : B1 m c (ix2 0 j)
    = (m ((c : Thread nD τ).loc main_arg1) : S2048.Idx → EReal) (ix1 j) := by
  blk_point [B1, iblk, V, idx_all t0_0]

/-- A weight code. -/
theorem B2_at (c : Dev nD) (k : Fin 2048) (j : Fin 8192) : B2 m c (ix2 k j)
    = (m ((c : Thread nD τ).loc main_arg2) : S2048x8192.Idx → EReal) (ix2 k j) := by
  blk_point [B2, iblk, V, idx_all t0_0]

/-- A weight scale. -/
theorem B3_at (c : Dev nD) (j : Fin 8192) : B3 m c (ix2 0 j)
    = (m ((c : Thread nD τ).loc main_arg3) : S8192.Idx → EReal) (ix1 j) := by
  blk_point [B3, iblk, V, idx_all t0_0]

end Cert.ReferenceIdeal.Hand

end
-- ==== Proof.Agree.lean ====
module

public import proofs.«01_k».proof.Defs
public import proofs.«01_k».proof.Proof.KernelIdeal.Final
public import proofs.«01_k».proof.Proof.KernelIdeal.Blocks
public import proofs.«01_k».proof.Proof.ReferenceIdeal.Values
public import proofs.«01_k».proof.Proof.ReferenceIdeal.Blocks

@[expose] public section

noncomputable section

namespace Cert.Agree

open Idealize.ShloMosaic Idealize.ShloMosaic.TcCoe Idealize.SL.Sem
open Cert.Maths

/-! ## Kernel and reference compute the same results from the same arguments -/

/-- The two programs' memories agree on a core's arguments. -/
structure Same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}
  {c : Dev Cert.KernelIdeal.nD}

open Cert.KernelIdeal.Hand (xM gM wM sM yM)
open Cert.ReferenceIdeal.Hand (B0 B1 B2 B3 yA)

/-- The blocks agree. -/
theorem x_eq (h : Same m m' c) (r : Fin 1024) : (fun j => B0 m' c (ix2 r j)) = xM m c r := by
  funext j
  exact (Cert.ReferenceIdeal.Hand.B0_at m' c r j).trans ((congrFun h.a0 _).trans (Cert.KernelIdeal.Hand.xM_eq m c r j).symm)

/-- The gains agree. -/
theorem g_eq (h : Same m m' c) : (fun j => B1 m' c (ix2 0 j)) = gM m c := by
  funext j
  exact (Cert.ReferenceIdeal.Hand.B1_at m' c j).trans ((congrFun h.a1 _).trans (Cert.KernelIdeal.Hand.gM_eq m c j).symm)

/-- The weight codes agree. -/
theorem w_eq (h : Same m m' c) (j : Fin 8192) : (fun k => B2 m' c (ix2 k j)) = wM m c j := by
  funext k
  exact (Cert.ReferenceIdeal.Hand.B2_at m' c k j).trans ((congrFun h.a2 _).trans (Cert.KernelIdeal.Hand.wM_eq m c j k).symm)

/-- The weight scales agree. -/
theorem s_eq (h : Same m m' c) (j : Fin 8192) : B3 m' c (ix2 0 j) = sM m c j :=
  (Cert.ReferenceIdeal.Hand.B3_at m' c j).trans ((congrFun h.a3 _).trans (Cert.KernelIdeal.Hand.sM_eq m c j).symm)

/-- The product agrees. -/
theorem y_eq (h : Same m m' c) : yA (B0 m' c) (B1 m' c) (B2 m' c) (B3 m' c) = yM m c := by
  funext r j
  unfold yA yM
  rw [x_eq h, g_eq h, w_eq h, s_eq h]

open Cert.ReferenceIdeal.Gen (k0_pay2 k0_pay3 k0_pay4 k0_pay5 k0_pay7 k0_pay9 k0_pay10)

/-- The codes of the product agree. -/
theorem yc_eq (h : Same m m' c) :
    k0_pay9 (F := Ideal) (k0_pay2 (B0 m' c) (B1 m' c)) (Scalar.ofBits .f32 0x43E00000#32) (k0_pay3 (B0 m' c) (B1 m' c)) (B2 m' c) (B3 m' c)
      = Cert.KernelIdeal.Hand.YC m c := by
  funext i
  obtain ⟨r, j, rfl⟩ : ∃ (r : Fin 1024) (j : Fin 8192), i = ix2 r j := ⟨i 0, i 1, eq_ix2 i⟩
  refine (Cert.ReferenceIdeal.Hand.pay9_at _ _ _ _ r j).trans ?_
  rw [y_eq h]
  exact (Cert.KernelIdeal.Hand.YC_at m c r j).symm

/-- The scale of the product agrees. -/
theorem ys_eq (h : Same m m' c) :
    k0_pay10 (F := Ideal) (k0_pay2 (B0 m' c) (B1 m' c)) (Scalar.ofBits .f32 0x43E00000#32) (k0_pay3 (B0 m' c) (B1 m' c)) (B2 m' c) (B3 m' c)
      = Cert.KernelIdeal.Hand.YS m c := by
  funext i
  refine (Cert.ReferenceIdeal.Hand.pay10_at _ _ _ _ i).trans ?_
  rw [y_eq h]
  exact (Cert.KernelIdeal.Hand.YS_at m c i).symm

/-- The product's largest magnitude agrees. -/
theorem ym_eq (h : Same m m' c) :
    k0_pay7 (F := Ideal) (k0_pay2 (B0 m' c) (B1 m' c)) (Scalar.ofBits .f32 0x43E00000#32) (k0_pay3 (B0 m' c) (B1 m' c)) (B2 m' c) (B3 m' c)
      = Cert.KernelIdeal.Hand.YM m c := by
  funext i
  refine (Cert.ReferenceIdeal.Hand.pay7_at _ _ _ _ i).trans ?_
  rw [y_eq h]
  exact (Cert.KernelIdeal.Hand.YM_at m c i).symm

/-- The codes of the activations agree. -/
theorem xc_eq (h : Same m m' c) :
    k0_pay4 (F := Ideal) (Scalar.ofBits .f32 0x43E00000#32) (k0_pay3 (B0 m' c) (B1 m' c)) = Cert.KernelIdeal.Hand.XC m c := by
  funext i
  obtain ⟨r, j, rfl⟩ : ∃ (r : Fin 1024) (j : Fin 2048), i = ix2 r j := ⟨i 0, i 1, eq_ix2 i⟩
  refine (Cert.ReferenceIdeal.Hand.pay4_at _ _ r j).trans ?_
  rw [x_eq h, g_eq h]
  exact (Cert.KernelIdeal.Hand.XC_at m c r j).symm

/-- The scales of the activations agree. -/
theorem xs_eq (h : Same m m' c) :
    k0_pay5 (F := Ideal) (k0_pay2 (B0 m' c) (B1 m' c)) = Cert.KernelIdeal.Hand.XS m c := by
  funext i
  obtain ⟨r, b, rfl⟩ : ∃ (r : Fin 1024) (b : Fin 1), i = ix2 r b := ⟨i 0, i 1, eq_ix2 i⟩
  refine (Cert.ReferenceIdeal.Hand.pay5_at _ _ r b).trans ?_
  rw [x_eq h, g_eq h]
  exact (Cert.KernelIdeal.Hand.XS_at m c r b).symm

/-- Kernel and reference, run from the same arguments, end with the same five results. -/
theorem algebraic : @algebraic_KernelIdeal_ReferenceIdeal Cert.KernelIdeal.Gen.facts Cert.ReferenceIdeal.Gen.facts := by
  intro m g m' g' _ hm
  have h : ∀ c, Same m m' c := fun c => ⟨(hm c).1, (hm c).2.1, (hm c).2.2.1, (hm c).2.2.2⟩
  refine ⟨fun c => Cert.KernelIdeal.Hand.YC m c, fun c => Cert.KernelIdeal.Hand.YS m c, fun c => Cert.KernelIdeal.Hand.YM m c,
    fun c => Cert.KernelIdeal.Hand.XC m c, fun c => Cert.KernelIdeal.Hand.XS m c, Cert.KernelIdeal.Hand.run_results m g, ?_⟩
  refine (θ_run _ _ _).mono (fun r hr c => ?_) (Cert.ReferenceIdeal.Hand.run_results m' g')
  obtain ⟨h0, h1, h2, h3, h4, ha⟩ := hr c
  exact ⟨h0.trans (yc_eq (h c)), h1.trans (ys_eq (h c)), h2.trans (ym_eq (h c)), h3.trans (xc_eq (h c)), h4.trans (xs_eq (h c)), ha⟩

end Cert.Agree

end
-- ==== Proof.lean ====
module

public import proofs.«01_k».proof.Defs
public import proofs.«01_k».proof.Proof.Kernel.Run
public import proofs.«01_k».proof.Proof.KernelIdeal.Run
public import proofs.«01_k».proof.Proof.Agree

@[expose] public section

noncomputable section

namespace Cert.Proof

open Idealize.ShloMosaic Idealize.SL.Sem Cert.Kernel

/-- The frames of the kernel, of its idealization and of the reference; the idealization rewrites nothing; the values agree. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Gen.frame m ρ, trivial, Cert.Agree.algebraic⟩

end Cert.Proof

end
